-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 1024]⟩ ⟨2, ![1024, 1024]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 512]⟩ ⟨2, ![1024, 1024]⟩ (Layout.meshBlock [2, 4, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x1024 : Shape := ⟨2, ![512, 1024]⟩
abbrev S1024x512 : Shape := ⟨2, ![1024, 512]⟩
abbrev S512x512 : Shape := ⟨2, ![512, 512]⟩
abbrev S4 : Shape := ⟨1, ![4]⟩
abbrev S_ : Shape := ⟨0, ![]⟩
abbrev S1 : Shape := ⟨1, ![1]⟩
abbrev S128x512 : Shape := ⟨2, ![128, 512]⟩

abbrev nBuf : Space → Nat
  | .hbm => 2
  | .vmem => 4
  | .smem => 0
  | _ => 0

abbrev bufTy : (tb : Table) → Fin (tcTables nBuf tb) → BufTy
  | .hbm, ⟨0, _⟩ => ⟨S512x1024, .f32⟩
  | .hbm, ⟨1, _⟩ => ⟨S1024x512, .bf16⟩
  | .local _ .vmem, ⟨0, _⟩ => ⟨S512x512, .f32⟩
  | .local _ .vmem, ⟨1, _⟩ => ⟨S512x512, .bf16⟩
  | .local _ .vmem, ⟨2, _⟩ => ⟨S512x512, .f32⟩
  | .local _ .vmem, ⟨3, _⟩ => ⟨S512x512, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) : Fin 2 → Nat :=
  let c0_i32_10 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c512_i32 : BitVec 32 := 512#32
  let v17 : BitVec 32 := Scalar.muli v9 c512_i32
  ![0, v17.toNat]
def k0_off2 (d0 : Dev nD) : Fin 2 → Nat :=
  let c128_i32_14 : BitVec 32 := 128#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c512_i32_11 : BitVec 32 := 512#32
  let v22 : BitVec 32 := Scalar.muli v9 c512_i32_11
  ![128, v22.toNat]
def k0_off3 (d0 : Dev nD) : Fin 2 → Nat :=
  let c256_i32_18 : BitVec 32 := 256#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c512_i32_15 : BitVec 32 := 512#32
  let v27 : BitVec 32 := Scalar.muli v9 c512_i32_15
  ![256, v27.toNat]
def k0_off4 (d0 : Dev nD) : Fin 2 → Nat :=
  let c384_i32_21 : BitVec 32 := 384#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c512_i32_19 : BitVec 32 := 512#32
  let v32 : BitVec 32 := Scalar.muli v9 c512_i32_19
  ![384, v32.toNat]
def k0_off5 (d0 : Dev nD) : Fin 2 → Nat :=
  let c0_i32_23 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_22 : BitVec 32 := 512#32
  let v37 : BitVec 32 := Scalar.muli v2 c512_i32_22
  ![0, v37.toNat]
def k0_off6 (d0 : Dev nD) (c0_i32_33 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_32 : BitVec 32 := 512#32
  let v48 : BitVec 32 := Scalar.muli v2 c512_i32_32
  let v49 : BitVec 32 := Scalar.addi v48 c0_i32_33
  let c0_i32_40 : BitVec 32 := 0#32
  ![v49.toNat, 0]
def k0_dev2 (d0 : Dev nD) : Nat :=
  let c0_i32_37 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_36 : BitVec 32 := 16#32
  let v50 : BitVec 32 := Scalar.muli v9 c16_i32_36
  let v51 : BitVec 32 := Scalar.addi c0_i32_37 v50
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_38 : BitVec 32 := 4#32
  let v52 : BitVec 32 := Scalar.muli v5 c4_i32_38
  let v53 : BitVec 32 := Scalar.addi v51 v52
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v54 : BitVec 32 := Scalar.muli v8 c1_i32_39
  let v55 : BitVec 32 := Scalar.addi v53 v54
  v55.toNat
def k0_dev3 (d0 : Dev nD) : Nat :=
  let c0_i32_55 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_54 : BitVec 32 := 16#32
  let v73 : BitVec 32 := Scalar.muli v9 c16_i32_54
  let v74 : BitVec 32 := Scalar.addi c0_i32_55 v73
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_56 : BitVec 32 := 4#32
  let v75 : BitVec 32 := Scalar.muli v5 c4_i32_56
  let v76 : BitVec 32 := Scalar.addi v74 v75
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_57 : BitVec 32 := 1#32
  let v77 : BitVec 32 := Scalar.muli v8 c1_i32_57
  let v78 : BitVec 32 := Scalar.addi v76 v77
  v78.toNat
def k0_dev4 (d0 : Dev nD) : Nat :=
  let c0_i32_73 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_72 : BitVec 32 := 16#32
  let v96 : BitVec 32 := Scalar.muli v9 c16_i32_72
  let v97 : BitVec 32 := Scalar.addi c0_i32_73 v96
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_74 : BitVec 32 := 4#32
  let v98 : BitVec 32 := Scalar.muli v5 c4_i32_74
  let v99 : BitVec 32 := Scalar.addi v97 v98
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_75 : BitVec 32 := 1#32
  let v100 : BitVec 32 := Scalar.muli v8 c1_i32_75
  let v101 : BitVec 32 := Scalar.addi v99 v100
  v101.toNat
def k0_dev5 (d0 : Dev nD) : Nat :=
  let c0_i32_91 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_90 : BitVec 32 := 16#32
  let v119 : BitVec 32 := Scalar.muli v9 c16_i32_90
  let v120 : BitVec 32 := Scalar.addi c0_i32_91 v119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_92 : BitVec 32 := 4#32
  let v121 : BitVec 32 := Scalar.muli v5 c4_i32_92
  let v122 : BitVec 32 := Scalar.addi v120 v121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_93 : BitVec 32 := 1#32
  let v123 : BitVec 32 := Scalar.muli v8 c1_i32_93
  let v124 : BitVec 32 := Scalar.addi v122 v123
  v124.toNat
def k0_off7 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_102 : BitVec 32 := 512#32
  let v137 : BitVec 32 := Scalar.muli v2 c512_i32_102
  let c0_i32_103 : BitVec 32 := 0#32
  ![v137.toNat, 0]
-- ==== ReferenceIdeal.lean ====
abbrev S1024x1024 : Shape := ⟨2, ![1024, 1024]⟩

abbrev nBuf : Space → Nat
  | .hbm => 2
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.KernelIdeal.Proto.lean ====
/- The exchange between the two devices of a pair: who the partner is, which pieces of the arrays travel, what each
   semaphore counts, and what each device hands over when it signals or when a transfer lands. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Rounds
public import Idealize.ShloMosaic.Lib.Tactic

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra the proof's tokens live in: the launch library's copy, the exchange's own, and a counter for the copies within a device -/

/-- The algebra of the proof's tokens. -/
abbrev UU : Type := UR sig nD τ × (URounds (GSem nD τ sig) Unit × Counters)

local notation "𝕄" => MT nD τ sig Unit (Elt F) ℕ UU ℕ

/-- The launch library's part of it. -/
abbrev EP : Emb (UR sig nD τ) (MT nD τ sig Unit (Elt F) ℕ UU ℕ) := embL
/-- The exchange's part of it. -/
def ER : Emb (URounds (GSem nD τ sig) Unit) (MT nD τ sig Unit (Elt F) ℕ UU ℕ) :=
  (Emb.inl : Emb (URounds (GSem nD τ sig) Unit) (URounds (GSem nD τ sig) Unit × Counters)).trans embR

/-- The exchange's part is none of the resources that stand for the machine's state. -/
instance ER_landsIn : (ER : Emb (URounds (GSem nD τ sig) Unit) 𝕄).LandsIn (upEmb : UEmb _ 𝕄) := by unfold ER; infer_instance

/-- No loop of the kernel needs a bound of its own. -/
abbrev 𝒱₀ : Variants := Variants.none

variable (m : (ℓ : Loc nD τ sig) → Buf (Elt F) ℓ) (ρ : Dev nD → PrngReg)

/-- The memory at launch: any contents, every semaphore counter at zero, any generator registers. -/
def s₀ : MemSt nD τ sig (Elt F) := ⟨m, fun _ => 0, ρ⟩

/-! ## The partner -/

/-- The device with the other `x` coordinate and the same `y` and `z`: sixteen places on, cyclically. -/
def peer (c : Dev nD) : Dev nD := ⟨(c.val + 16) % 32, Nat.mod_lt _ (by decide)⟩

/-- The partner of the partner is the device itself. -/
theorem peer_peer (c : Dev nD) : peer (peer c) = c := by revert c; decide

/-- The two devices of a pair exchange places. -/
def swap : Dev nD ≃ Dev nD := ⟨peer, peer, peer_peer, peer_peer⟩

/-- The partner's `x` coordinate is the other one. -/
theorem peer_div (c : Dev nD) : (peer c).val / 16 = 1 - c.val / 16 := by revert c; decide

/-- The device's number as the kernel computes it for its signal names the partner. -/
theorem dev1_eq (c : Dev nD) : (⟨k0_dev1 c, k0_dev1_lt c⟩ : Dev nD) = peer c := by revert c; decide +kernel
/-- So does the number it computes for transfer 0. -/
theorem dev2_eq (c : Dev nD) : (⟨k0_dev2 c, k0_dev2_lt c⟩ : Dev nD) = peer c := by revert c; decide +kernel
/-- So does the number it computes for transfer 1. -/
theorem dev3_eq (c : Dev nD) : (⟨k0_dev3 c, k0_dev3_lt c⟩ : Dev nD) = peer c := by revert c; decide +kernel
/-- So does the number it computes for transfer 2. -/
theorem dev4_eq (c : Dev nD) : (⟨k0_dev4 c, k0_dev4_lt c⟩ : Dev nD) = peer c := by revert c; decide +kernel
/-- So does the number it computes for transfer 3. -/
theorem dev5_eq (c : Dev nD) : (⟨k0_dev5 c, k0_dev5_lt c⟩ : Dev nD) = peer c := by revert c; decide +kernel

/-! ## The buffers -/

/-- The argument, whole; -/
abbrev xM : Memref sig .tc .hbm S512x1024 .f32 := Memref.whole main_arg0
/-- the result; -/
abbrev oM : Memref sig .tc .hbm S1024x512 .bf16 := Memref.whole main_v1
/-- the buffer that the half to send is copied into; -/
abbrev stM : Memref sig .tc .vmem S512x512 .f32 := Memref.whole cc0_scratch0
/-- the one it is sent from, cast; -/
abbrev cvM : Memref sig .tc .vmem S512x512 .bf16 := Memref.whole cc0_scratch1
/-- the buffer that the half kept is copied into; -/
abbrev locM : Memref sig .tc .vmem S512x512 .f32 := Memref.whole cc0_scratch2
/-- and the one it is copied out from, cast. -/
abbrev lcvM : Memref sig .tc .vmem S512x512 .bf16 := Memref.whole cc0_scratch3

/-- The half of its columns that a device keeps. -/
abbrev xKeep (d : Dev nD) : Memref sig .tc .hbm S512x512 .f32 :=
  xM.slice (Rect.unit (s := S512x1024) (k0_off5 d) S512x512.size (k0_off5_inb d)) (fun _ => rfl)
/-- The rows of the result that a device fills itself, as numbered by device `d`. -/
abbrev oKeep (d : Dev nD) : Memref sig .tc .hbm S512x512 .bf16 :=
  oM.slice (Rect.unit (s := S1024x512) (k0_off7 d) S512x512.size (k0_off7_inb d)) (fun _ => rfl)

/-- Piece 0 of the half of its columns that a device sends, in its argument; -/
abbrev xSend0 (d : Dev nD) : Memref sig .tc .hbm S128x512 .f32 :=
  xM.slice (Rect.unit (s := S512x1024) (k0_off1 d) S128x512.size (k0_off1_inb d)) (fun _ => rfl)
/-- in the staging buffer; -/
abbrev st0 : Memref sig .tc .vmem S128x512 .f32 :=
  stM.slice (Rect.unit (s := S512x512) ![0, 0] S128x512.size inb_S512x512_S128x512_0_0) (fun _ => rfl)
/-- cast, in the buffer it is sent from; -/
abbrev cv0 : Memref sig .tc .vmem S128x512 .bf16 :=
  cvM.slice (Rect.unit (s := S512x512) ![0, 0] S128x512.size inb_S512x512_S128x512_0_0) (fun _ => rfl)
/-- and the rows of the partner's result it lands in. -/
abbrev oSend0 (d : Dev nD) : Memref sig .tc .hbm S128x512 .bf16 :=
  oM.slice (Rect.unit (s := S1024x512) (k0_off6 d 0#32) S128x512.size (k0_off6_inb d 0)) (fun _ => rfl)

/-- Piece 1 of the half of its columns that a device sends, in its argument; -/
abbrev xSend1 (d : Dev nD) : Memref sig .tc .hbm S128x512 .f32 :=
  xM.slice (Rect.unit (s := S512x1024) (k0_off2 d) S128x512.size (k0_off2_inb d)) (fun _ => rfl)
/-- in the staging buffer; -/
abbrev st1 : Memref sig .tc .vmem S128x512 .f32 :=
  stM.slice (Rect.unit (s := S512x512) ![128, 0] S128x512.size inb_S512x512_S128x512_128_0) (fun _ => rfl)
/-- cast, in the buffer it is sent from; -/
abbrev cv1 : Memref sig .tc .vmem S128x512 .bf16 :=
  cvM.slice (Rect.unit (s := S512x512) ![128, 0] S128x512.size inb_S512x512_S128x512_128_0) (fun _ => rfl)
/-- and the rows of the partner's result it lands in. -/
abbrev oSend1 (d : Dev nD) : Memref sig .tc .hbm S128x512 .bf16 :=
  oM.slice (Rect.unit (s := S1024x512) (k0_off6 d 128#32) S128x512.size (k0_off6_inb d 1)) (fun _ => rfl)

/-- Piece 2 of the half of its columns that a device sends, in its argument; -/
abbrev xSend2 (d : Dev nD) : Memref sig .tc .hbm S128x512 .f32 :=
  xM.slice (Rect.unit (s := S512x1024) (k0_off3 d) S128x512.size (k0_off3_inb d)) (fun _ => rfl)
/-- in the staging buffer; -/
abbrev st2 : Memref sig .tc .vmem S128x512 .f32 :=
  stM.slice (Rect.unit (s := S512x512) ![256, 0] S128x512.size inb_S512x512_S128x512_256_0) (fun _ => rfl)
/-- cast, in the buffer it is sent from; -/
abbrev cv2 : Memref sig .tc .vmem S128x512 .bf16 :=
  cvM.slice (Rect.unit (s := S512x512) ![256, 0] S128x512.size inb_S512x512_S128x512_256_0) (fun _ => rfl)
/-- and the rows of the partner's result it lands in. -/
abbrev oSend2 (d : Dev nD) : Memref sig .tc .hbm S128x512 .bf16 :=
  oM.slice (Rect.unit (s := S1024x512) (k0_off6 d 256#32) S128x512.size (k0_off6_inb d 2)) (fun _ => rfl)

/-- Piece 3 of the half of its columns that a device sends, in its argument; -/
abbrev xSend3 (d : Dev nD) : Memref sig .tc .hbm S128x512 .f32 :=
  xM.slice (Rect.unit (s := S512x1024) (k0_off4 d) S128x512.size (k0_off4_inb d)) (fun _ => rfl)
/-- in the staging buffer; -/
abbrev st3 : Memref sig .tc .vmem S128x512 .f32 :=
  stM.slice (Rect.unit (s := S512x512) ![384, 0] S128x512.size inb_S512x512_S128x512_384_0) (fun _ => rfl)
/-- cast, in the buffer it is sent from; -/
abbrev cv3 : Memref sig .tc .vmem S128x512 .bf16 :=
  cvM.slice (Rect.unit (s := S512x512) ![384, 0] S128x512.size inb_S512x512_S128x512_384_0) (fun _ => rfl)
/-- and the rows of the partner's result it lands in. -/
abbrev oSend3 (d : Dev nD) : Memref sig .tc .hbm S128x512 .bf16 :=
  oM.slice (Rect.unit (s := S1024x512) (k0_off6 d 384#32) S128x512.size (k0_off6_inb d 3)) (fun _ => rfl)

/-! ## The semaphores and their cells -/

/-- The barrier's semaphore. -/
abbrev barS : Sem sig := (SemArray.scalar (sig.barrier 0 rfl) : Sems sig S_).sem
/-- The semaphore that counts piece 0 as it leaves, -/
abbrev sendS0 : DmaSem sig := ((cc0_scratch7.slice (Rect.unit (s := S4) ![0] S1.size inb_S4_S1_0)).squeeze S_ squeezes_S1_S_).sem
/-- and the one that counts it as it lands. -/
abbrev recvS0 : DmaSem sig := ((cc0_scratch8.slice (Rect.unit (s := S4) ![0] S1.size inb_S4_S1_0)).squeeze S_ squeezes_S1_S_).sem
/-- The semaphore that counts piece 1 as it leaves, -/
abbrev sendS1 : DmaSem sig := ((cc0_scratch7.slice (Rect.unit (s := S4) ![1] S1.size inb_S4_S1_1)).squeeze S_ squeezes_S1_S_).sem
/-- and the one that counts it as it lands. -/
abbrev recvS1 : DmaSem sig := ((cc0_scratch8.slice (Rect.unit (s := S4) ![1] S1.size inb_S4_S1_1)).squeeze S_ squeezes_S1_S_).sem
/-- The semaphore that counts piece 2 as it leaves, -/
abbrev sendS2 : DmaSem sig := ((cc0_scratch7.slice (Rect.unit (s := S4) ![2] S1.size inb_S4_S1_2)).squeeze S_ squeezes_S1_S_).sem
/-- and the one that counts it as it lands. -/
abbrev recvS2 : DmaSem sig := ((cc0_scratch8.slice (Rect.unit (s := S4) ![2] S1.size inb_S4_S1_2)).squeeze S_ squeezes_S1_S_).sem
/-- The semaphore that counts piece 3 as it leaves, -/
abbrev sendS3 : DmaSem sig := ((cc0_scratch7.slice (Rect.unit (s := S4) ![3] S1.size inb_S4_S1_3)).squeeze S_ squeezes_S1_S_).sem
/-- and the one that counts it as it lands. -/
abbrev recvS3 : DmaSem sig := ((cc0_scratch8.slice (Rect.unit (s := S4) ![3] S1.size inb_S4_S1_3)).squeeze S_ squeezes_S1_S_).sem

/-- A device's barrier cell. -/
abbrev barCell (c : Dev nD) : GSem nD τ sig := ((c : Thread nD τ), .reg barS)
/-- A device's cell for piece 0 leaving, -/
abbrev sendCell0 (c : Dev nD) : GSem nD τ sig := ((c : Thread nD τ), .dma sendS0)
/-- and for piece 0 landing. -/
abbrev recvCell0 (c : Dev nD) : GSem nD τ sig := ((c : Thread nD τ), .dma recvS0)
/-- A device's cell for piece 1 leaving, -/
abbrev sendCell1 (c : Dev nD) : GSem nD τ sig := ((c : Thread nD τ), .dma sendS1)
/-- and for piece 1 landing. -/
abbrev recvCell1 (c : Dev nD) : GSem nD τ sig := ((c : Thread nD τ), .dma recvS1)
/-- A device's cell for piece 2 leaving, -/
abbrev sendCell2 (c : Dev nD) : GSem nD τ sig := ((c : Thread nD τ), .dma sendS2)
/-- and for piece 2 landing. -/
abbrev recvCell2 (c : Dev nD) : GSem nD τ sig := ((c : Thread nD τ), .dma recvS2)
/-- A device's cell for piece 3 leaving, -/
abbrev sendCell3 (c : Dev nD) : GSem nD τ sig := ((c : Thread nD τ), .dma sendS3)
/-- and for piece 3 landing. -/
abbrev recvCell3 (c : Dev nD) : GSem nD τ sig := ((c : Thread nD τ), .dma recvS3)

/-- What one piece's transfer adds to a semaphore. -/
abbrev N : ℕ := (cv0 : Memref sig .tc .vmem S128x512 .bf16).view.dmaCredit
/-- It is not zero. -/
theorem N_pos : 0 < N := View.dmaCredit_pos _ (by decide)

/-! ## The contents -/

/-- Where an element of the result of device `c` comes from: the device of its pair whose rows of the whole array
    these are, that device's row, and the column of the whole array. -/
def src (c : Dev nD) (i : S1024x512.Idx) : Dev nD := ⟨16 * ((i 0).val / 512) + c.val % 16, by
  have h : (i 0).val < 1024 := (i 0).isLt
  show _ < 32
  omega⟩
/-- The place of that element in the source device's argument. -/
def srcIx (c : Dev nD) (i : S1024x512.Idx) : S512x1024.Idx := fun
  | ⟨0, _⟩ => ⟨(i 0).val % 512, Nat.mod_lt _ (by decide)⟩
  | ⟨1, _⟩ => ⟨512 * (c.val / 16) + (i 1).val, by
      have h : (i 1).val < 512 := (i 1).isLt
      have hc : c.val < 32 := c.isLt
      show _ < 1024
      omega⟩

/-- A device's argument. -/
abbrev xV (c : Dev nD) : (main_arg0 : Ref sig .tc).ty.Contents (Elt F) := m ((c : Thread nD τ).loc main_arg0)

/-- A device's result: the column block of the whole array that is its own, cast. -/
def outV (c : Dev nD) : (main_v1 : Ref sig .tc).ty.Contents (Elt F) :=
  fun i => FloatOps.truncf .bf16 bitsLt_bf16_f32 (xV m (src c i) (srcIx c i))

/-! ## What changes hands -/

/-- Piece 0 of the rows that device `d` fills in the result of device `e`. -/
abbrev oPts0 (d e : Dev nD) (f : (main_v1 : Ref sig .tc).ty.Contents (Elt F)) : sProp 𝕄 :=
  (oSend0 d).view.loc (e : Thread nD τ) ↦[(oSend0 d).view.set]{fullShare} f
/-- Piece 0 of the buffer a device sends from. -/
abbrev cvPts0 (c : Dev nD) (f : (cc0_scratch1 : Ref sig .tc).ty.Contents (Elt F)) : sProp 𝕄 :=
  (cv0 : Memref sig .tc .vmem S128x512 .bf16).view.loc (c : Thread nD τ) ↦[(cv0 : Memref sig .tc .vmem S128x512 .bf16).view.set]{fullShare} f

/-- Piece 1 of the rows that device `d` fills in the result of device `e`. -/
abbrev oPts1 (d e : Dev nD) (f : (main_v1 : Ref sig .tc).ty.Contents (Elt F)) : sProp 𝕄 :=
  (oSend1 d).view.loc (e : Thread nD τ) ↦[(oSend1 d).view.set]{fullShare} f
/-- Piece 1 of the buffer a device sends from. -/
abbrev cvPts1 (c : Dev nD) (f : (cc0_scratch1 : Ref sig .tc).ty.Contents (Elt F)) : sProp 𝕄 :=
  (cv1 : Memref sig .tc .vmem S128x512 .bf16).view.loc (c : Thread nD τ) ↦[(cv1 : Memref sig .tc .vmem S128x512 .bf16).view.set]{fullShare} f

/-- Piece 2 of the rows that device `d` fills in the result of device `e`. -/
abbrev oPts2 (d e : Dev nD) (f : (main_v1 : Ref sig .tc).ty.Contents (Elt F)) : sProp 𝕄 :=
  (oSend2 d).view.loc (e : Thread nD τ) ↦[(oSend2 d).view.set]{fullShare} f
/-- Piece 2 of the buffer a device sends from. -/
abbrev cvPts2 (c : Dev nD) (f : (cc0_scratch1 : Ref sig .tc).ty.Contents (Elt F)) : sProp 𝕄 :=
  (cv2 : Memref sig .tc .vmem S128x512 .bf16).view.loc (c : Thread nD τ) ↦[(cv2 : Memref sig .tc .vmem S128x512 .bf16).view.set]{fullShare} f

/-- Piece 3 of the rows that device `d` fills in the result of device `e`. -/
abbrev oPts3 (d e : Dev nD) (f : (main_v1 : Ref sig .tc).ty.Contents (Elt F)) : sProp 𝕄 :=
  (oSend3 d).view.loc (e : Thread nD τ) ↦[(oSend3 d).view.set]{fullShare} f
/-- Piece 3 of the buffer a device sends from. -/
abbrev cvPts3 (c : Dev nD) (f : (cc0_scratch1 : Ref sig .tc).ty.Contents (Elt F)) : sProp 𝕄 :=
  (cv3 : Memref sig .tc .vmem S128x512 .bf16).view.loc (c : Thread nD τ) ↦[(cv3 : Memref sig .tc .vmem S128x512 .bf16).view.set]{fullShare} f

/-- What the partner's barrier signal hands to `c`: the rows of the partner's result that `c` is to fill. -/
def barPay (c : Dev nD) : sProp 𝕄 :=
  iprop((∃ f, oPts0 c (peer c) f) ∗ (∃ f, oPts1 c (peer c) f) ∗ (∃ f, oPts2 c (peer c) f) ∗ (∃ f, oPts3 c (peer c) f))

/-- What a transfer hands back when it has left (sends 6 to 9) or over when it has landed (receipts 10 to 13), by the
    number of its semaphore. -/
def dmaPay (c : Dev nD) : ℕ → sProp 𝕄
  | 6 => iprop(∃ f, cvPts0 c f)
  | 7 => iprop(∃ f, cvPts1 c f)
  | 8 => iprop(∃ f, cvPts2 c f)
  | 9 => iprop(∃ f, cvPts3 c f)
  | 10 => oPts0 (peer c) c (outV m c)
  | 11 => oPts1 (peer c) c (outV m c)
  | 12 => oPts2 (peer c) c (outV m c)
  | 13 => oPts3 (peer c) c (outV m c)
  | _ => iprop(emp)

/-- The cells other devices or the engine credit under the exchange: the barrier's, the sends' and the receipts'. -/
abbrev IsRing (g : GSem nD τ sig) : Prop := g.1.2 = .tc ∧ (match g.2 with | .reg _ => True | .dma q => 6 ≤ q.val)

/-- Whether a cell is one of them can be decided. -/
instance (g : GSem nD τ sig) : Decidable (IsRing g) := by unfold IsRing; cases g.2 <;> infer_instance

/-- The exchange's schedule: one round, one duty on each of those cells. -/
def xRd : Rounds.Schedule (GSem nD τ sig) Unit 𝕄 where
  duties g r := if r = 0 ∧ IsRing g then {()} else ∅
  unitless _ := False
  amount g _ _ := match g.2 with | .reg _ => 1 | .dma _ => N
  payload g _ _ := match g.2 with | .reg _ => barPay g.1.1 | .dma q => dmaPay m g.1.1 q.val
  amount_pos g _ _ _ := by
    cases g.2
    · exact Nat.one_pos
    · exact N_pos

/-- What a transfer hands over may be kept in an invariant; -/
instance dmaPay_storable (c : Dev nD) (q : ℕ) : BI.Storable (upEmb : UEmb _ 𝕄) (dmaPay (F := F) m c q) := by
  unfold dmaPay; split <;> infer_instance

/-- so may whatever the schedule hands over. -/
instance xRd_payload_storable (g : GSem nD τ sig) (r : ℕ) (d : Unit) : BI.Storable (upEmb : UEmb _ 𝕄) ((xRd (F := F) m).payload g r d) := by
  show BI.Storable upEmb (match g.2 with | .reg _ => barPay g.1.1 | .dma q => dmaPay m g.1.1 q.val)
  cases g.2
  · show BI.Storable upEmb (barPay g.1.1); unfold barPay; infer_instance
  · exact dmaPay_storable m _ _

section Sched
variable (c : Dev nD)

/-- After its one round a cell has no duty. -/
theorem duties_later (g : GSem nD τ sig) : ∀ r, 1 ≤ r → (xRd (F := F) m).duties g r = ∅ :=
  fun r hr => by dsimp only [xRd]; exact if_neg fun h => by omega

/-- In its round a cell of the exchange has one duty, -/
theorem duties_ring {g : GSem nD τ sig} (h : IsRing g) : (xRd (F := F) m).duties g 0 = {()} := by
  dsimp only [xRd]; exact if_pos ⟨rfl, h⟩
/-- and expects the amount of that duty. -/
theorem expect_ring {g : GSem nD τ sig} (h : IsRing g) : (xRd (F := F) m).expect g 0 = (xRd (F := F) m).amount g 0 () := by
  unfold Schedule.expect Schedule.amountOf; rw [duties_ring m h, Finset.sum_singleton]
/-- A transfer's duty, whichever it is, has the amount of one piece. -/
theorem amount_dma (q : DmaSem sig) (u : Unit) : (xRd (F := F) m).amount ((c : Thread nD τ), .dma q) 0 u = N := rfl

/-! The schedule read at each cell. First the barrier: -/

/-- one duty, -/
theorem duties_bar : (xRd (F := F) m).duties (barCell c) 0 = {()} := duties_ring m ⟨rfl, trivial⟩
/-- of one unit, -/
theorem amount_bar (u : Unit) : (xRd (F := F) m).amount (barCell c) 0 u = 1 := rfl
/-- which is all it expects, -/
theorem expect_bar : (xRd (F := F) m).expect (barCell c) 0 = 1 := expect_ring m ⟨rfl, trivial⟩
/-- and it hands over the rows to fill. -/
theorem payload_bar (u : Unit) : (xRd (F := F) m).payload (barCell c) 0 u = barPay c := rfl

/-- Piece 0 leaving: one duty, -/
theorem duties_send0 : (xRd (F := F) m).duties (sendCell0 c) 0 = {()} := duties_ring m ⟨rfl, (by decide : 6 ≤ (sendS0).val)⟩
/-- whose amount is expected; -/
theorem expect_send0 : (xRd (F := F) m).expect (sendCell0 c) 0 = N := expect_ring m ⟨rfl, (by decide : 6 ≤ (sendS0).val)⟩
/-- it gives back the block it was sent from. -/
theorem payload_send0 (u : Unit) : (xRd (F := F) m).payload (sendCell0 c) 0 u = iprop(∃ f, cvPts0 c f) := rfl

/-- Piece 1 leaving: one duty, -/
theorem duties_send1 : (xRd (F := F) m).duties (sendCell1 c) 0 = {()} := duties_ring m ⟨rfl, (by decide : 6 ≤ (sendS1).val)⟩
/-- whose amount is expected; -/
theorem expect_send1 : (xRd (F := F) m).expect (sendCell1 c) 0 = N := expect_ring m ⟨rfl, (by decide : 6 ≤ (sendS1).val)⟩
/-- it gives back the block it was sent from. -/
theorem payload_send1 (u : Unit) : (xRd (F := F) m).payload (sendCell1 c) 0 u = iprop(∃ f, cvPts1 c f) := rfl

/-- Piece 2 leaving: one duty, -/
theorem duties_send2 : (xRd (F := F) m).duties (sendCell2 c) 0 = {()} := duties_ring m ⟨rfl, (by decide : 6 ≤ (sendS2).val)⟩
/-- whose amount is expected; -/
theorem expect_send2 : (xRd (F := F) m).expect (sendCell2 c) 0 = N := expect_ring m ⟨rfl, (by decide : 6 ≤ (sendS2).val)⟩
/-- it gives back the block it was sent from. -/
theorem payload_send2 (u : Unit) : (xRd (F := F) m).payload (sendCell2 c) 0 u = iprop(∃ f, cvPts2 c f) := rfl

/-- Piece 3 leaving: one duty, -/
theorem duties_send3 : (xRd (F := F) m).duties (sendCell3 c) 0 = {()} := duties_ring m ⟨rfl, (by decide : 6 ≤ (sendS3).val)⟩
/-- whose amount is expected; -/
theorem expect_send3 : (xRd (F := F) m).expect (sendCell3 c) 0 = N := expect_ring m ⟨rfl, (by decide : 6 ≤ (sendS3).val)⟩
/-- it gives back the block it was sent from. -/
theorem payload_send3 (u : Unit) : (xRd (F := F) m).payload (sendCell3 c) 0 u = iprop(∃ f, cvPts3 c f) := rfl

/-- Piece 0 landing: one duty, -/
theorem duties_recv0 : (xRd (F := F) m).duties (recvCell0 c) 0 = {()} := duties_ring m ⟨rfl, (by decide : 6 ≤ (recvS0).val)⟩
/-- whose amount is expected; -/
theorem expect_recv0 : (xRd (F := F) m).expect (recvCell0 c) 0 = N := expect_ring m ⟨rfl, (by decide : 6 ≤ (recvS0).val)⟩
/-- it hands over its rows of the result, with their final contents. -/
theorem payload_recv0 (u : Unit) : (xRd (F := F) m).payload (recvCell0 c) 0 u = oPts0 (peer c) c (outV m c) := rfl

/-- Piece 1 landing: one duty, -/
theorem duties_recv1 : (xRd (F := F) m).duties (recvCell1 c) 0 = {()} := duties_ring m ⟨rfl, (by decide : 6 ≤ (recvS1).val)⟩
/-- whose amount is expected; -/
theorem expect_recv1 : (xRd (F := F) m).expect (recvCell1 c) 0 = N := expect_ring m ⟨rfl, (by decide : 6 ≤ (recvS1).val)⟩
/-- it hands over its rows of the result, with their final contents. -/
theorem payload_recv1 (u : Unit) : (xRd (F := F) m).payload (recvCell1 c) 0 u = oPts1 (peer c) c (outV m c) := rfl

/-- Piece 2 landing: one duty, -/
theorem duties_recv2 : (xRd (F := F) m).duties (recvCell2 c) 0 = {()} := duties_ring m ⟨rfl, (by decide : 6 ≤ (recvS2).val)⟩
/-- whose amount is expected; -/
theorem expect_recv2 : (xRd (F := F) m).expect (recvCell2 c) 0 = N := expect_ring m ⟨rfl, (by decide : 6 ≤ (recvS2).val)⟩
/-- it hands over its rows of the result, with their final contents. -/
theorem payload_recv2 (u : Unit) : (xRd (F := F) m).payload (recvCell2 c) 0 u = oPts2 (peer c) c (outV m c) := rfl

/-- Piece 3 landing: one duty, -/
theorem duties_recv3 : (xRd (F := F) m).duties (recvCell3 c) 0 = {()} := duties_ring m ⟨rfl, (by decide : 6 ≤ (recvS3).val)⟩
/-- whose amount is expected; -/
theorem expect_recv3 : (xRd (F := F) m).expect (recvCell3 c) 0 = N := expect_ring m ⟨rfl, (by decide : 6 ≤ (recvS3).val)⟩
/-- it hands over its rows of the result, with their final contents. -/
theorem payload_recv3 (u : Unit) : (xRd (F := F) m).payload (recvCell3 c) 0 u = oPts3 (peer c) c (outV m c) := rfl

end Sched

end Cert.KernelIdeal.Hand

end
-- ==== Proof.KernelIdeal.Owed.lean ====
/- What each device owes at the start, and why it may wait: the barrier is settled before any receipt, so a device that
   still owes its partner pieces may wait on its own copies and on the barrier. -/
module

public import proofs.«01_k».proof.Proof.KernelIdeal.Proto

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Piece 0's credit at the partner's receive cell. -/
abbrev R0 (c : Dev nD) : CellTallies nD τ sig Unit := tallyAt (recvCell0 (peer c)) () N
/-- Piece 1's. -/
abbrev R1 (c : Dev nD) : CellTallies nD τ sig Unit := tallyAt (recvCell1 (peer c)) () N
/-- Piece 2's. -/
abbrev R2 (c : Dev nD) : CellTallies nD τ sig Unit := tallyAt (recvCell2 (peer c)) () N
/-- Piece 3's. -/
abbrev R3 (c : Dev nD) : CellTallies nD τ sig Unit := tallyAt (recvCell3 (peer c)) () N

/-- A device owes its partner the four pieces and one unit at the barrier. -/
def O₀ (c : Dev nD) : CellTallies nD τ sig Unit := R3 c + R2 c + R1 c + R0 c + tallyAt (barCell (peer c)) () 1

/-- Debts are counted at the cells of the devices' main cores. -/
def L (g : GSem nD τ sig) : Finset Unit := if g.1.2 = .tc then {()} else ∅
/-- The order in which cells may be waited for: receipts last, the barrier before them, a device's own copies first. -/
def lv (g : GSem nD τ sig) (_ : Unit) : ℕ := match g.2 with | .reg _ => 1 | .dma q => if 10 ≤ q.val then 2 else 0

/-- No other cell counts any; -/
theorem L_of_ne (g : GSem nD τ sig) (h : g.1.2 ≠ .tc) : L g = ∅ := if_neg h
/-- these do. -/
theorem L_tc (c : Dev nD) (sm : SemLoc sig) : L ((c : Thread nD τ), sm) = {()} := if_pos rfl

/-- Debts at receive cells only. -/
def Late (O : CellTallies nD τ sig Unit) : Prop := ∀ g u, 0 < O g u → L g = {()} ∧ lv g u = 2

/-- One piece's debt is at a receive cell. -/
theorem late_tally {g₀ : GSem nD τ sig} (h : L g₀ = {()} ∧ lv g₀ () = 2) (n : ℕ) : Late (tallyAt g₀ () n) := fun g u hg => by
  rw [tallyAt_apply] at hg
  by_cases h' : g = g₀ ∧ u = ()
  · rw [h'.1]; exact h
  · rw [if_neg h'] at hg; exact absurd hg (Nat.lt_irrefl 0)

/-- Debts at receive cells, together. -/
theorem late_add {O P : CellTallies nD τ sig Unit} (hO : Late O) (hP : Late P) : Late (O + P) := fun g u hg => by
  rw [Pi.add_apply, Finsupp.add_apply] at hg
  rcases Nat.eq_zero_or_pos (O g u) with h | h
  · exact hP g u (by omega)
  · exact hO g u h

/-- Each piece's debt is at a receive cell: piece 0's, -/
theorem late_R0 (c : Dev nD) : Late (R0 c) := late_tally ⟨L_tc _ _, rfl⟩ N
/-- piece 1's, -/
theorem late_R1 (c : Dev nD) : Late (R1 c) := late_tally ⟨L_tc _ _, rfl⟩ N
/-- piece 2's, -/
theorem late_R2 (c : Dev nD) : Late (R2 c) := late_tally ⟨L_tc _ _, rfl⟩ N
/-- piece 3's. -/
theorem late_R3 (c : Dev nD) : Late (R3 c) := late_tally ⟨L_tc _ _, rfl⟩ N

/-- Owing receipts only, a device may wait on the barrier or on a copy of its own. -/
theorem mayWait_late (c : Dev nD) (sm : SemLoc sig) (O : CellTallies nD τ sig Unit) (hs : lv ((c : Thread nD τ), sm) () ≤ 1) (hO : Late O) :
    (levAts L lv : sProp 𝕄) ⊢ MayWait (c : Thread nD τ) sm () O :=
  MayOwe.of_cut (L := L) (lev := lv) 1 (fun p hp => by rw [Finset.mem_singleton.mp hp, L_tc]; exact Finset.mem_singleton_self _)
    (fun g u hg => by rw [(hO g u hg).1]; exact Finset.mem_singleton_self _)
    (fun p hp => by rw [Finset.mem_singleton.mp hp]; exact hs)
    (fun g u hg => by rw [(hO g u hg).2]; decide)

/-- With four pieces to send: -/
theorem mayWait_4 (c : Dev nD) (sm : SemLoc sig) (hs : lv ((c : Thread nD τ), sm) () ≤ 1) :
    (levAts L lv : sProp 𝕄) ⊢ MayWait (c : Thread nD τ) sm () (R3 c + R2 c + R1 c + R0 c) :=
  mayWait_late c sm _ hs (late_add (late_add (late_add (late_R3 c) (late_R2 c)) (late_R1 c)) (late_R0 c))
/-- with three: -/
theorem mayWait_3 (c : Dev nD) (sm : SemLoc sig) (hs : lv ((c : Thread nD τ), sm) () ≤ 1) :
    (levAts L lv : sProp 𝕄) ⊢ MayWait (c : Thread nD τ) sm () (R3 c + R2 c + R1 c) :=
  mayWait_late c sm _ hs (late_add (late_add (late_R3 c) (late_R2 c)) (late_R1 c))
/-- with two: -/
theorem mayWait_2 (c : Dev nD) (sm : SemLoc sig) (hs : lv ((c : Thread nD τ), sm) () ≤ 1) :
    (levAts L lv : sProp 𝕄) ⊢ MayWait (c : Thread nD τ) sm () (R3 c + R2 c) :=
  mayWait_late c sm _ hs (late_add (late_R3 c) (late_R2 c))
/-- with one. -/
theorem mayWait_1 (c : Dev nD) (sm : SemLoc sig) (hs : lv ((c : Thread nD τ), sm) () ≤ 1) :
    (levAts L lv : sProp 𝕄) ⊢ MayWait (c : Thread nD τ) sm () (R3 c) :=
  mayWait_late c sm _ hs (late_R3 c)

end Cert.KernelIdeal.Hand

end
-- ==== Proof.KernelIdeal.Views.lean ====
/- How the two arrays divide into the pieces that travel: the argument into the four pieces sent and the half kept, the
   result into the half a device fills itself and the four pieces its partner fills. -/
module

public import proofs.«01_k».proof.Proof.KernelIdeal.Proto

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A buffer whose elements fall into five classes: holding it is holding the five classes. -/
theorem split_five {ℓ : Loc nD τ sig} {A B C D E : Finset (Idx ℓ)} (f : Buf (Elt F) ℓ) (part : Idx ℓ → Fin 5)
    (hA : ∀ i, i ∈ A ↔ part i = 0) (hB : ∀ i, i ∈ B ↔ part i = 1) (hC : ∀ i, i ∈ C ↔ part i = 2) (hD : ∀ i, i ∈ D ↔ part i = 3)
    (hE : ∀ i, i ∈ E ↔ part i = 4) :
    (ℓ ↦{fullShare} f : sProp 𝕄)
      = iprop((ℓ ↦[A]{fullShare} f) ∗ (ℓ ↦[B]{fullShare} f) ∗ (ℓ ↦[C]{fullShare} f) ∗ (ℓ ↦[D]{fullShare} f) ∗ ℓ ↦[E]{fullShare} f) := by
  have h : (Finset.univ : Finset (Idx ℓ)) = A ∪ (B ∪ (C ∪ (D ∪ E))) := by
    refine (Finset.eq_univ_iff_forall.mpr fun i => ?_).symm
    simp only [Finset.mem_union, hA, hB, hC, hD, hE]
    generalize part i = p; revert p; decide
  have join : ∀ {X Y : Finset (Idx ℓ)}, (∀ i, i ∈ X → i ∈ Y → False) →
      (ℓ ↦[X ∪ Y]{fullShare} f : sProp 𝕄) = iprop((ℓ ↦[X]{fullShare} f) ∗ ℓ ↦[Y]{fullShare} f) := fun {X Y} hd =>
    let hu : (ℓ ↦[X ∪ Y]{fullShare} f : sProp 𝕄) ⊣⊢ iprop((ℓ ↦[X]{fullShare} f) ∗ ℓ ↦[Y]{fullShare} f) :=
      pointsTo_union (Finset.disjoint_left.mpr fun i hx hy => hd i hx hy)
    equiv_iff.mp ⟨hu.1, hu.2⟩
  rw [h, join ?_, join ?_, join ?_, join ?_]
  all_goals
    intro i hx hy
    simp only [Finset.mem_union, hA, hB, hC, hD, hE] at hx hy
    rw [hx] at hy
    revert hy; decide

/-- The elements of a block of consecutive rows and columns, by their two coordinates. -/
theorem mem_block {b : Ref sig .tc} {o size : Fin b.ty.shape.rank → ℕ} {inb} (i : b.ty.shape.Idx) :
    i ∈ ((View.whole b).slice (Rect.unit o size inb)).set ↔ ∀ a, o a ≤ (i a).val ∧ (i a).val < o a + size a := by
  rw [View.set_slice_whole, Rect.mem_set_unit]

/-- Which piece of the argument an element lies in: 4 for the half that device `c` keeps. -/
def xPart (c : Dev nD) (i : S512x1024.Idx) : Fin 5 :=
  if (i 1).val / 512 = c.val / 16 then 4 else ⟨(i 0).val / 128, by have h : (i 0).val < 512 := (i 0).isLt; omega⟩

/-- Which piece of the result of device `e` an element lies in: 4 for the rows that the device fills itself. -/
def oPart (e : Dev nD) (i : S1024x512.Idx) : Fin 5 :=
  if (i 0).val / 512 = e.val / 16 then 4 else ⟨(i 0).val % 512 / 128, by have h : (i 0).val < 1024 := (i 0).isLt; omega⟩

/-- Piece `k` of the argument is class `k`. -/
theorem mem_xPiece (c : Dev nD) (k : Fin 4) {o : Fin 2 → ℕ} (h : o = ![128 * k.val, 512 - 512 * (c.val / 16)]) {inb} (i : S512x1024.Idx) :
    i ∈ (xM.slice (Rect.unit (s := S512x1024) o S128x512.size inb) (fun _ => rfl)).view.set ↔ xPart c i = k.castSucc := by
  subst h
  have h0 : (i 0).val < 512 := (i 0).isLt
  have h1 : (i 1).val < 1024 := (i 1).isLt
  have hc : c.val < 32 := c.isLt
  have hk : k.val < 4 := k.isLt
  refine (mem_block (b := main_arg0) i).trans ?_
  refine Fin.forall_fin_two.trans ?_
  rw [Fin.ext_iff]
  show (128 * k.val ≤ (i 0).val ∧ (i 0).val < 128 * k.val + 128) ∧ (512 - 512 * (c.val / 16) ≤ (i 1).val ∧ (i 1).val < 512 - 512 * (c.val / 16) + 512) ↔ _
  unfold xPart
  split
  · show _ ↔ 4 = k.val
    omega
  · show _ ↔ (i 0).val / 128 = k.val
    omega

/-- Piece `k` of the rows that the partner of device `e` fills is class `k`. -/
theorem mem_oPiece (e : Dev nD) (k : Fin 4) {o : Fin 2 → ℕ} (h : o = ![512 * ((peer e).val / 16) + 128 * k.val, 0]) {inb} (i : S1024x512.Idx) :
    i ∈ (oM.slice (Rect.unit (s := S1024x512) o S128x512.size inb) (fun _ => rfl)).view.set ↔ oPart e i = k.castSucc := by
  rw [peer_div] at h
  subst h
  have h0 : (i 0).val < 1024 := (i 0).isLt
  have h1 : (i 1).val < 512 := (i 1).isLt
  have he : e.val < 32 := e.isLt
  have hk : k.val < 4 := k.isLt
  refine (mem_block (b := main_v1) i).trans ?_
  refine Fin.forall_fin_two.trans ?_
  rw [Fin.ext_iff]
  show (512 * (1 - e.val / 16) + 128 * k.val ≤ (i 0).val ∧ (i 0).val < 512 * (1 - e.val / 16) + 128 * k.val + 128) ∧ (0 ≤ (i 1).val ∧ (i 1).val < 0 + 512) ↔ _
  unfold oPart
  split
  · show _ ↔ 4 = k.val
    omega
  · show _ ↔ (i 0).val % 512 / 128 = k.val
    omega

/-- The half kept is class 4. -/
theorem mem_xKeep (c : Dev nD) (i : S512x1024.Idx) : i ∈ (xKeep c).view.set ↔ xPart c i = 4 := by
  have h0 : (i 0).val < 512 := (i 0).isLt
  have h1 : (i 1).val < 1024 := (i 1).isLt
  have hc : c.val < 32 := c.isLt
  refine (mem_block (b := main_arg0) i).trans ?_
  rw [k0_off5_eq]
  refine Fin.forall_fin_two.trans ?_
  rw [Fin.ext_iff]
  show (0 ≤ (i 0).val ∧ (i 0).val < 0 + 512) ∧ (512 * (c.val / 16) ≤ (i 1).val ∧ (i 1).val < 512 * (c.val / 16) + 512) ↔ _
  unfold xPart
  split
  · constructor
    · intro h; rfl
    · intro h; omega
  · show _ ↔ (i 0).val / 128 = 4
    omega

/-- The rows a device fills itself are class 4. -/
theorem mem_oKeep (e : Dev nD) (i : S1024x512.Idx) : i ∈ (oKeep e).view.set ↔ oPart e i = 4 := by
  have h0 : (i 0).val < 1024 := (i 0).isLt
  have h1 : (i 1).val < 512 := (i 1).isLt
  have he : e.val < 32 := e.isLt
  refine (mem_block (b := main_v1) i).trans ?_
  rw [k0_off7_eq]
  refine Fin.forall_fin_two.trans ?_
  rw [Fin.ext_iff]
  show (512 * (e.val / 16) ≤ (i 0).val ∧ (i 0).val < 512 * (e.val / 16) + 512) ∧ (0 ≤ (i 1).val ∧ (i 1).val < 0 + 512) ↔ _
  unfold oPart
  split
  · constructor
    · intro h; rfl
    · intro h; omega
  · show _ ↔ (i 0).val % 512 / 128 = 4
    omega

/-- The argument as the four pieces sent and the half kept. -/
theorem x_split (c : Dev nD) (f : Buf (Elt F) ((c : Thread nD τ).loc main_arg0)) :
    (((c : Thread nD τ).loc main_arg0) ↦{fullShare} f : sProp 𝕄)
      = iprop(((xSend0 c).view.loc (c : Thread nD τ) ↦[(xSend0 c).view.set]{fullShare} f)
        ∗ ((xSend1 c).view.loc (c : Thread nD τ) ↦[(xSend1 c).view.set]{fullShare} f)
        ∗ ((xSend2 c).view.loc (c : Thread nD τ) ↦[(xSend2 c).view.set]{fullShare} f)
        ∗ ((xSend3 c).view.loc (c : Thread nD τ) ↦[(xSend3 c).view.set]{fullShare} f)
        ∗ (xKeep c).view.loc (c : Thread nD τ) ↦[(xKeep c).view.set]{fullShare} f) :=
  split_five f (xPart c) (mem_xPiece c 0 (k0_off1_eq c)) (mem_xPiece c 1 (k0_off2_eq c)) (mem_xPiece c 2 (k0_off3_eq c))
    (mem_xPiece c 3 (k0_off4_eq c)) (mem_xKeep c)

/-- The result as the four pieces the partner fills and the rows the device fills itself. -/
theorem o_split (e : Dev nD) (f : Buf (Elt F) ((e : Thread nD τ).loc main_v1)) :
    (((e : Thread nD τ).loc main_v1) ↦{fullShare} f : sProp 𝕄)
      = iprop(oPts0 (peer e) e f ∗ oPts1 (peer e) e f ∗ oPts2 (peer e) e f ∗ oPts3 (peer e) e f
        ∗ (oKeep e).view.loc (e : Thread nD τ) ↦[(oKeep e).view.set]{fullShare} f) :=
  split_five f (oPart e) (mem_oPiece e 0 (k0_off6_eq (peer e) 0)) (mem_oPiece e 1 (k0_off6_eq (peer e) 1)) (mem_oPiece e 2 (k0_off6_eq (peer e) 2))
    (mem_oPiece e 3 (k0_off6_eq (peer e) 3)) (mem_oKeep e)

end Cert.KernelIdeal.Hand

end
-- ==== Proof.KernelIdeal.Scratch.lean ====
/- How the staging buffers divide into the four pieces that travel. -/
module

public import proofs.«01_k».proof.Proof.KernelIdeal.Views

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A buffer whose elements fall into four classes: holding it is holding the four classes. -/
theorem split_four {ℓ : Loc nD τ sig} {A B C D : Finset (Idx ℓ)} (f : Buf (Elt F) ℓ) (part : Idx ℓ → Fin 4)
    (hA : ∀ i, i ∈ A ↔ part i = 0) (hB : ∀ i, i ∈ B ↔ part i = 1) (hC : ∀ i, i ∈ C ↔ part i = 2) (hD : ∀ i, i ∈ D ↔ part i = 3) :
    (ℓ ↦{fullShare} f : sProp 𝕄)
      = iprop((ℓ ↦[A]{fullShare} f) ∗ (ℓ ↦[B]{fullShare} f) ∗ (ℓ ↦[C]{fullShare} f) ∗ ℓ ↦[D]{fullShare} f) := by
  have h : (Finset.univ : Finset (Idx ℓ)) = A ∪ (B ∪ (C ∪ D)) := by
    refine (Finset.eq_univ_iff_forall.mpr fun i => ?_).symm
    simp only [Finset.mem_union, hA, hB, hC, hD]
    generalize part i = p; revert p; decide
  have join : ∀ {X Y : Finset (Idx ℓ)}, (∀ i, i ∈ X → i ∈ Y → False) →
      (ℓ ↦[X ∪ Y]{fullShare} f : sProp 𝕄) = iprop((ℓ ↦[X]{fullShare} f) ∗ ℓ ↦[Y]{fullShare} f) := fun {X Y} hd =>
    let hu : (ℓ ↦[X ∪ Y]{fullShare} f : sProp 𝕄) ⊣⊢ iprop((ℓ ↦[X]{fullShare} f) ∗ ℓ ↦[Y]{fullShare} f) :=
      pointsTo_union (Finset.disjoint_left.mpr fun i hx hy => hd i hx hy)
    equiv_iff.mp ⟨hu.1, hu.2⟩
  rw [h, join, join, join]
  all_goals
    intro i hx hy
    simp only [Finset.mem_union, hA, hB, hC, hD] at hx hy
    rw [hx] at hy
    revert hy; decide

/-- Holding the four classes, each at contents of its own, is holding the buffer at some contents. -/
theorem join_four {ℓ : Loc nD τ sig} {A B C D : Finset (Idx ℓ)} (a b c d : Buf (Elt F) ℓ) (part : Idx ℓ → Fin 4)
    (hA : ∀ i, i ∈ A ↔ part i = 0) (hB : ∀ i, i ∈ B ↔ part i = 1) (hC : ∀ i, i ∈ C ↔ part i = 2) (hD : ∀ i, i ∈ D ↔ part i = 3) :
    iprop((ℓ ↦[A]{fullShare} a) ∗ (ℓ ↦[B]{fullShare} b) ∗ (ℓ ↦[C]{fullShare} c) ∗ ℓ ↦[D]{fullShare} d)
      ⊢ (iprop(∃ f : Buf (Elt F) ℓ, ℓ ↦{fullShare} f) : sProp 𝕄) := by
  let f : Buf (Elt F) ℓ := fun i => if part i = 0 then a i else if part i = 1 then b i else if part i = 2 then c i else d i
  have e0 : ∀ i ∈ A, a i = f i := fun i hi => by
    have h := (hA i).mp hi
    simp [f, h]
  have e1 : ∀ i ∈ B, b i = f i := fun i hi => by
    have h := (hB i).mp hi
    simp [f, h]
  have e2 : ∀ i ∈ C, c i = f i := fun i hi => by
    have h := (hC i).mp hi
    simp [f, h]
  have e3 : ∀ i ∈ D, d i = f i := fun i hi => by
    have h := (hD i).mp hi
    simp [f, h]
  rw [pointsTo_congr e0, pointsTo_congr e1, pointsTo_congr e2, pointsTo_congr e3, ← split_four f part hA hB hC hD]
  iintro H
  iexists f
  iexact H

/-- Which of the four blocks of rows an element of a staging buffer lies in. -/
def rowPart (i : S512x512.Idx) : Fin 4 := ⟨(i 0).val / 128, by have h : (i 0).val < 512 := (i 0).isLt; omega⟩

/-- Block `k` of the rows, by the two coordinates, is class `k`. -/
theorem row_block (k : Fin 4) (i : S512x512.Idx) :
    (∀ a : Fin 2, (![128 * k.val, 0] : Fin 2 → ℕ) a ≤ (i a).val ∧ (i a).val < (![128 * k.val, 0] : Fin 2 → ℕ) a + S128x512.size a) ↔ rowPart i = k := by
  have h0 : (i 0).val < 512 := (i 0).isLt
  have h1 : (i 1).val < 512 := (i 1).isLt
  refine Fin.forall_fin_two.trans ?_
  rw [Fin.ext_iff]
  show (128 * k.val ≤ (i 0).val ∧ (i 0).val < 128 * k.val + 128) ∧ (0 ≤ (i 1).val ∧ (i 1).val < 0 + 512) ↔ (i 0).val / 128 = k.val
  omega

/-- Block `k` of the staging buffer is class `k`; -/
theorem mem_st (k : Fin 4) {o : Fin 2 → ℕ} (h : o = ![128 * k.val, 0]) {inb} (i : S512x512.Idx) :
    i ∈ (stM.slice (Rect.unit (s := S512x512) o S128x512.size inb) (fun _ => rfl)).view.set ↔ rowPart i = k := by
  subst h; exact (mem_block (b := cc0_scratch0) i).trans (row_block k i)

/-- so is block `k` of the buffer sent from. -/
theorem mem_cv (k : Fin 4) {o : Fin 2 → ℕ} (h : o = ![128 * k.val, 0]) {inb} (i : S512x512.Idx) :
    i ∈ (cvM.slice (Rect.unit (s := S512x512) o S128x512.size inb) (fun _ => rfl)).view.set ↔ rowPart i = k := by
  subst h; exact (mem_block (b := cc0_scratch1) i).trans (row_block k i)

/-- Block 0 of the staging buffer. -/
abbrev stPts0 (c : Dev nD) (f : (cc0_scratch0 : Ref sig .tc).ty.Contents (Elt F)) : sProp 𝕄 :=
  (st0 : Memref sig .tc .vmem S128x512 .f32).view.loc (c : Thread nD τ) ↦[(st0 : Memref sig .tc .vmem S128x512 .f32).view.set]{fullShare} f

/-- Block 1 of the staging buffer. -/
abbrev stPts1 (c : Dev nD) (f : (cc0_scratch0 : Ref sig .tc).ty.Contents (Elt F)) : sProp 𝕄 :=
  (st1 : Memref sig .tc .vmem S128x512 .f32).view.loc (c : Thread nD τ) ↦[(st1 : Memref sig .tc .vmem S128x512 .f32).view.set]{fullShare} f

/-- Block 2 of the staging buffer. -/
abbrev stPts2 (c : Dev nD) (f : (cc0_scratch0 : Ref sig .tc).ty.Contents (Elt F)) : sProp 𝕄 :=
  (st2 : Memref sig .tc .vmem S128x512 .f32).view.loc (c : Thread nD τ) ↦[(st2 : Memref sig .tc .vmem S128x512 .f32).view.set]{fullShare} f

/-- Block 3 of the staging buffer. -/
abbrev stPts3 (c : Dev nD) (f : (cc0_scratch0 : Ref sig .tc).ty.Contents (Elt F)) : sProp 𝕄 :=
  (st3 : Memref sig .tc .vmem S128x512 .f32).view.loc (c : Thread nD τ) ↦[(st3 : Memref sig .tc .vmem S128x512 .f32).view.set]{fullShare} f

/-- Holding `stM` is holding its four blocks. -/
theorem st_split (c : Dev nD) (f : Buf (Elt F) ((c : Thread nD τ).loc cc0_scratch0)) :
    (((c : Thread nD τ).loc cc0_scratch0) ↦{fullShare} f : sProp 𝕄) = iprop(stPts0 c f ∗ stPts1 c f ∗ stPts2 c f ∗ stPts3 c f) :=
  split_four f rowPart (mem_st 0 rfl) (mem_st 1 rfl) (mem_st 2 rfl) (mem_st 3 rfl)

/-- Its four blocks, each at any contents, are the buffer at some contents. -/
theorem st_join (c : Dev nD) (f0 f1 f2 f3 : Buf (Elt F) ((c : Thread nD τ).loc cc0_scratch0)) :
    iprop(stPts0 c f0 ∗ stPts1 c f1 ∗ stPts2 c f2 ∗ stPts3 c f3) ⊢ (iprop(∃ f : Buf (Elt F) ((c : Thread nD τ).loc cc0_scratch0), ((c : Thread nD τ).loc cc0_scratch0) ↦{fullShare} f) : sProp 𝕄) :=
  join_four f0 f1 f2 f3 rowPart (mem_st 0 rfl) (mem_st 1 rfl) (mem_st 2 rfl) (mem_st 3 rfl)

/-- Holding `cvM` is holding its four blocks. -/
theorem cv_split (c : Dev nD) (f : Buf (Elt F) ((c : Thread nD τ).loc cc0_scratch1)) :
    (((c : Thread nD τ).loc cc0_scratch1) ↦{fullShare} f : sProp 𝕄) = iprop(cvPts0 c f ∗ cvPts1 c f ∗ cvPts2 c f ∗ cvPts3 c f) :=
  split_four f rowPart (mem_cv 0 rfl) (mem_cv 1 rfl) (mem_cv 2 rfl) (mem_cv 3 rfl)

/-- Its four blocks, each at any contents, are the buffer at some contents. -/
theorem cv_join (c : Dev nD) (f0 f1 f2 f3 : Buf (Elt F) ((c : Thread nD τ).loc cc0_scratch1)) :
    iprop(cvPts0 c f0 ∗ cvPts1 c f1 ∗ cvPts2 c f2 ∗ cvPts3 c f3) ⊢ (iprop(∃ f : Buf (Elt F) ((c : Thread nD τ).loc cc0_scratch1), ((c : Thread nD τ).loc cc0_scratch1) ↦{fullShare} f) : sProp 𝕄) :=
  join_four f0 f1 f2 f3 rowPart (mem_cv 0 rfl) (mem_cv 1 rfl) (mem_cv 2 rfl) (mem_cv 3 rfl)

end Cert.KernelIdeal.Hand

end
-- ==== Proof.KernelIdeal.Vals.lean ====
/- What the transfers carry: each piece sent, and the half kept, is the part of the result it is written to. -/
module

public import proofs.«01_k».proof.Proof.KernelIdeal.Scratch
public import Idealize.ShloMosaic.Lib.VecWindow

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ)

/-- An offset and a step of one. -/
theorem block_place (o : Fin 2 → ℕ) (x : ℕ) (a : Fin 2) : o a + 1 * x = o a + x := by rw [Nat.one_mul]

/-- The cast of one block, element by element. -/
theorem cast_apply {s : Shape} (v : Vec F s .f32) (h : s.ShapeCasts s) (j : s.Idx) :
    shapeCast s (truncf .bf16 v bitsLt_bf16_f32) h j = FloatOps.truncf .bf16 bitsLt_bf16_f32 (v j) := by
  exact congrArg (fun i => FloatOps.truncf .bf16 bitsLt_bf16_f32 (v i)) (Shape.reshapeEquiv_self _ j)

/-- The result of the partner, at an element of the rows device `c` fills there in block `k`: it comes from device `c`. -/
theorem src_peer (c : Dev nD) (i : S1024x512.Idx) (h : (i 0).val / 512 = c.val / 16) : src (peer c) i = c := by
  apply Fin.ext
  have hc : c.val < 32 := c.isLt
  show 16 * ((i 0).val / 512) + (c.val + 16) % 32 % 16 = c.val
  omega

/-- The result of a device, at an element of the rows it fills itself: it comes from that device. -/
theorem src_self (c : Dev nD) (i : S1024x512.Idx) (h : (i 0).val / 512 = c.val / 16) : src c i = c := by
  apply Fin.ext
  have hc : c.val < 32 := c.isLt
  show 16 * ((i 0).val / 512) + c.val % 16 = c.val
  omega

/-- Piece `k` as device `c` sends it, written over anything, is piece `k` of its partner's result. -/
theorem sent (c : Dev nD) (k : Fin 4) {ox oo : Fin 2 → ℕ} (hx : ox = ![128 * k.val, 512 - 512 * (c.val / 16)])
    (ho : oo = ![512 * (c.val / 16) + 128 * k.val, 0]) {ix} {io} (fd : (main_v1 : Ref sig .tc).ty.Contents (Elt F)) {fs : S128x512.Idx → Elt F .bf16}
    (h : fs = shapeCast S128x512 (truncf .bf16 ((xM.slice (Rect.unit (s := S512x1024) ox S128x512.size ix) (fun _ => rfl)).view.read (Elt F) (xV m c)) bitsLt_bf16_f32)
      shapeCasts_S128x512_S128x512) :
    ∀ i ∈ (oM.slice (Rect.unit (s := S1024x512) oo S128x512.size io) (fun _ => rfl)).view.set,
      (oM.slice (Rect.unit (s := S1024x512) oo S128x512.size io) (fun _ => rfl)).view.write (Elt F) fd fs Finset.univ i = outV m (peer c) i := by
  subst hx; subst ho; subst h
  intro i hi
  rw [View.set, Finset.mem_map] at hi
  obtain ⟨j, -, rfl⟩ := hi
  refine (View.write_emb_of_mem (v := (oM.slice (Rect.unit (s := S1024x512) _ S128x512.size io) (fun _ => rfl)).view) fd _ (Finset.mem_univ j)).trans ?_
  refine (cast_apply _ _ j).trans ?_
  have hc : c.val < 32 := c.isLt
  have hk : k.val < 4 := k.isLt
  have j0 : (j 0).val < 128 := (j 0).isLt
  have j1 : (j 1).val < 512 := (j 1).isLt
  generalize hp : (oM.slice (Rect.unit (s := S1024x512) _ S128x512.size io) (fun _ => rfl)).view.emb j = p
  generalize hq : (xM.slice (Rect.unit (s := S512x1024) _ S128x512.size ix) (fun _ => rfl)).view.emb j = q
  have e0 : (p 0).val = 512 * (c.val / 16) + 128 * k.val + (j 0).val := by rw [← hp]; exact block_place _ (j 0).val 0
  have e1 : (p 1).val = 0 + (j 1).val := by rw [← hp]; exact block_place _ (j 1).val 1
  have x0 : (q 0).val = 128 * k.val + (j 0).val := by rw [← hq]; exact block_place _ (j 0).val 0
  have x1 : (q 1).val = 512 - 512 * (c.val / 16) + (j 1).val := by rw [← hq]; exact block_place _ (j 1).val 1
  have hs : src (peer c) p = c := src_peer c p (by omega)
  have hx : q = srcIx (peer c) p := by
    funext a
    apply Fin.ext
    fin_cases a
    · refine x0.trans ?_
      show _ = (p 0).val % 512
      omega
    · refine x1.trans ?_
      show _ = 512 * ((peer c).val / 16) + (p 1).val
      rw [e1, peer_div]; omega
  unfold outV
  rw [hs, ← hx]
  show FloatOps.truncf .bf16 bitsLt_bf16_f32 (xV m c ((xM.slice (Rect.unit (s := S512x1024) _ S128x512.size ix) (fun _ => rfl)).view.emb j)) = _
  rw [hq]

/-- The half kept, cast and written over anything, is the rows of the result that the device fills itself. -/
theorem kept (c : Dev nD) (fd : (main_v1 : Ref sig .tc).ty.Contents (Elt F)) (fs : S512x512.Idx → Elt F .bf16)
    (h : fs = k0_pay5 ((xKeep c).view.read (Elt F) (xV m c))) :
    ∀ i ∈ (oKeep c).view.set, (oKeep c).view.write (Elt F) fd fs Finset.univ i = outV m c i := by
  intro i hi
  subst h
  rw [View.set, Finset.mem_map] at hi
  obtain ⟨j, -, rfl⟩ := hi
  refine (View.write_emb_of_mem (v := (oKeep c).view) fd _ (Finset.mem_univ j)).trans ?_
  refine (cast_apply _ _ j).trans ?_
  have hc : c.val < 32 := c.isLt
  have j0 : (j 0).val < 512 := (j 0).isLt
  have j1 : (j 1).val < 512 := (j 1).isLt
  have e0 : (((oKeep c).view.emb j 0 : Fin _) : ℕ) = 512 * (c.val / 16) + (j 0).val := by
    refine (block_place (k0_off7 c) (j 0).val 0).trans ?_
    rw [k0_off7_eq]; rfl
  have e1 : (((oKeep c).view.emb j 1 : Fin _) : ℕ) = (j 1).val := by
    refine (block_place (k0_off7 c) (j 1).val 1).trans ?_
    rw [k0_off7_eq]; exact Nat.zero_add _
  have x0 : (((xKeep c).view.emb j 0 : Fin _) : ℕ) = (j 0).val := by
    refine (block_place (k0_off5 c) (j 0).val 0).trans ?_
    rw [k0_off5_eq]; exact Nat.zero_add _
  have x1 : (((xKeep c).view.emb j 1 : Fin _) : ℕ) = 512 * (c.val / 16) + (j 1).val := by
    refine (block_place (k0_off5 c) (j 1).val 1).trans ?_
    rw [k0_off5_eq]; rfl
  have hs : src c ((oKeep c).view.emb j) = c := src_self c _ (by rw [e0]; omega)
  have hx : (xKeep c).view.emb j = srcIx c ((oKeep c).view.emb j) := by
    funext a
    apply Fin.ext
    fin_cases a
    · refine x0.trans ?_
      show _ = (((oKeep c).view.emb j 0 : Fin _) : ℕ) % 512
      rw [e0]; omega
    · refine x1.trans ?_
      show _ = 512 * (c.val / 16) + (((oKeep c).view.emb j 1 : Fin _) : ℕ)
      rw [e1]
  unfold outV
  rw [hs, ← hx]; rfl

/-- What a piece's send reads, after the staged block was loaded, cast and stored: the cast of what was staged. -/
theorem sent_read (pay : Vec F S128x512 .f32 → FVec F S128x512 .bf16) {o : Fin 2 → ℕ} {inb} (f : (cc0_scratch1 : Ref sig .tc).ty.Contents (Elt F))
    (g : (cc0_scratch0 : Ref sig .tc).ty.Contents (Elt F)) (v : Vec F S128x512 .f32) :
    (cvM.slice (Rect.unit (s := S512x512) o S128x512.size inb) (fun _ => rfl)).view.read (Elt F)
      ((cvM.slice (Rect.unit (s := S512x512) o S128x512.size inb) (fun _ => rfl)).view.write (Elt F) f
        (pay (stM.view.readAt (Elt F) (Rect.unit (s := S512x512) o S128x512.size inb).toLoadRect
          ((stM.slice (Rect.unit (s := S512x512) o S128x512.size inb) (fun _ => rfl)).view.writes (Elt F) g [⟨Rect.whole S128x512, v⟩]))) Finset.univ)
      = pay v := by
  refine (View.read_write_univ (v := (cvM.slice (Rect.unit (s := S512x512) o S128x512.size inb) (fun _ => rfl)).view) _ _).trans ?_
  exact congrArg pay (View.read_writes_whole (stM.slice (Rect.unit (s := S512x512) o S128x512.size inb) (fun _ => rfl)).view g _)

/-- The rows a device fills itself, after the half kept was copied in, cast, stored and copied out. -/
theorem keep_out (c : Dev nD) (fd : (main_v1 : Ref sig .tc).ty.Contents (Elt F)) (f : (cc0_scratch2 : Ref sig .tc).ty.Contents (Elt F)) (g : (cc0_scratch3 : Ref sig .tc).ty.Contents (Elt F)) :
    ∀ i ∈ (oKeep c).view.set,
      (oKeep c).view.writes (Elt F) fd [⟨Rect.whole S512x512, (lcvM : Memref sig .tc .vmem S512x512 .bf16).view.read (Elt F)
        ((lcvM : Memref sig .tc .vmem S512x512 .bf16).view.writes (Elt F) g
          [⟨(Rect.unit (s := S512x512) ![0, 0] S512x512.size inb_S512x512_S512x512_0_0), k0_pay5 ((locM : Memref sig .tc .vmem S512x512 .f32).view.readAt (Elt F) (Rect.unit (s := S512x512) ![0, 0] S512x512.size inb_S512x512_S512x512_0_0).toLoadRect
            ((locM : Memref sig .tc .vmem S512x512 .f32).view.write (Elt F) f ((xKeep c).view.read (Elt F) (xV m c)) Finset.univ))⟩])⟩] i
      = outV m c i := by
  have hw := View.read_writes_full (lcvM : Memref sig .tc .vmem S512x512 .bf16).view g inb_S512x512_S512x512_0_0
    (k0_pay5 ((locM : Memref sig .tc .vmem S512x512 .f32).view.readAt (Elt F) (Rect.unit (s := S512x512) ![0, 0] S512x512.size inb_S512x512_S512x512_0_0).toLoadRect
      ((locM : Memref sig .tc .vmem S512x512 .f32).view.write (Elt F) f ((xKeep c).view.read (Elt F) (xV m c)) Finset.univ))) []
  have hr : (locM : Memref sig .tc .vmem S512x512 .f32).view.readAt (Elt F) (Rect.unit (s := S512x512) ![0, 0] S512x512.size inb_S512x512_S512x512_0_0).toLoadRect
      ((locM : Memref sig .tc .vmem S512x512 .f32).view.write (Elt F) f ((xKeep c).view.read (Elt F) (xV m c)) Finset.univ)
      = (xKeep c).view.read (Elt F) (xV m c) := by
    refine (Memref.readAt_unit_zero (Elt F) cc0_scratch2 (by decide) inb_S512x512_S512x512_0_0 _).trans ?_
    exact View.read_write_univ (v := (locM : Memref sig .tc .vmem S512x512 .f32).view) f _
  intro i hi
  refine Eq.trans ?_ (kept m c fd _ (hw.trans (congrArg k0_pay5 hr)) i hi)
  exact (congrFun (View.write_univ_eq_writes_whole (oKeep c).view fd [] _) i).symm

end Cert.KernelIdeal.Hand

end
-- ==== Proof.KernelIdeal.Send.lean ====
/- A device sends one piece to its partner. -/
module

public import proofs.«01_k».proof.Proof.KernelIdeal.Owed
public import proofs.«01_k».proof.Proof.KernelIdeal.Vals

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Sending one piece, whichever it is: the block it is sent from comes back with the send cell's credit, and the rows it
    fills, rewritten, are the receive cell's. -/
theorem wp_piece (c : Dev nD) {n : Dev nD} (hn : n = peer c) (src : Memref sig .tc .vmem S128x512 .bf16) (dst : Memref sig .tc .hbm S128x512 .bf16)
    (sS sR : DmaSem sig) {hsc : dst.view.ref.isScScratch = false} {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α} (κ₁ κ₂ : ℕ)
    (fs : Buf (Elt F) (src.view.loc (c : Thread nD τ))) (fd : Buf (Elt F) (dst.view.loc (peer c : Thread nD τ)))
    (O O₁ : CellTallies nD τ sig Unit) (hO : O₁ = O + tallyAt ((peer c : Thread nD τ), .dma sR) () N) (W : Waits sig Unit)
    (hS : 6 ≤ sS.val) (hR : 6 ≤ sR.val) (hN : dst.view.amount (.dma sR) = N)
    (payS : (src.view.loc (c : Thread nD τ) ↦[src.view.set]{fullShare} fs) ⊢ dmaPay m c sS.val)
    (payR : (dst.view.loc (peer c : Thread nD τ) ↦[dst.view.set]{fullShare} dst.view.write (Elt F) fd (src.view.read (Elt F) fs) Finset.univ)
      ⊢ dmaPay m (peer c) sR.val) :
    iprop(cellInv ER (xRd m) κ₁ ((c : Thread nD τ), .dma sS) ∗ cellInv ER (xRd m) κ₂ ((peer c : Thread nD τ), .dma sR)
        ∗ (src.view.loc (c : Thread nD τ) ↦[src.view.set]{fullShare} fs) ∗ (dst.view.loc (peer c : Thread nD τ) ↦[dst.view.set]{fullShare} fd)
        ∗ owes (c : Thread nD τ) O₁ W
        ∗ dutyTok ER ((c : Thread nD τ), .dma sS) 0 () ∗ reached ER ((c : Thread nD τ), .dma sS) 0
        ∗ dutyTok ER ((peer c : Thread nD τ), .dma sR) 0 () ∗ reached ER ((peer c : Thread nD τ), .dma sR) 0)
      ⊢ iprop(((cred (tallyAt ((c : Thread nD τ), .dma sS) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn
  exact Rounds.wp_send_pointsTo 𝒱₀ ER (xRd m) (c : Thread nD τ) none (src := src) (dst := dst) (c' := (peer c : Thread nD τ))
    (sS := .dma sS) (sem := .dma sR) (q := fullShare) (O₀ := O₁) (κ₁ := κ₁) (κ₂ := κ₂) (r₁ := 0) (r₂ := 0) (d₁ := ()) (d₂ := ()) (fs := fs) (fd := fd)
    (by rw [duties_ring m ⟨rfl, hS⟩]; exact Finset.mem_singleton_self _) (by rw [duties_ring m ⟨rfl, hR⟩]; exact Finset.mem_singleton_self _)
    () () N hN (amount_dma m c sS ()) (amount_dma m (peer c) sR ()) O hO (W := W) payS payR

/-- A block of the buffer sent from, at given contents, is that block at some contents. -/
theorem some_contents {ℓ : Loc nD τ sig} {A : Finset (Idx ℓ)} (f : Buf (Elt F) ℓ) :
    (ℓ ↦[A]{fullShare} f : sProp 𝕄) ⊢ iprop(∃ g : Buf (Elt F) ℓ, ℓ ↦[A]{fullShare} g) := by
  iintro H; iexists f; iexact H

/-- Piece 0, cast and landed, is what its receive cell hands over. -/
theorem landed0 (c : Dev nD) (fs : (cc0_scratch1 : Ref sig .tc).ty.Contents (Elt F)) (fd : (main_v1 : Ref sig .tc).ty.Contents (Elt F))
    (hv : (cv0 : Memref sig .tc .vmem S128x512 .bf16).view.read (Elt F) fs = k0_pay1 ((xSend0 c).view.read (Elt F) (xV m c))) :
    (oPts0 c (peer c) ((oSend0 c).view.write (Elt F) fd ((cv0 : Memref sig .tc .vmem S128x512 .bf16).view.read (Elt F) fs) Finset.univ) : sProp 𝕄)
      ⊢ dmaPay m (peer c) (recvS0).val := by
  show _ ⊢ oPts0 (peer (peer c)) (peer c) (outV m (peer c))
  rw [peer_peer]
  exact Entails.of_eq (pointsTo_congr (sent m c 0 (k0_off1_eq c) (k0_off6_eq c 0) fd hv))

/-- Piece 1, cast and landed, is what its receive cell hands over. -/
theorem landed1 (c : Dev nD) (fs : (cc0_scratch1 : Ref sig .tc).ty.Contents (Elt F)) (fd : (main_v1 : Ref sig .tc).ty.Contents (Elt F))
    (hv : (cv1 : Memref sig .tc .vmem S128x512 .bf16).view.read (Elt F) fs = k0_pay2 ((xSend1 c).view.read (Elt F) (xV m c))) :
    (oPts1 c (peer c) ((oSend1 c).view.write (Elt F) fd ((cv1 : Memref sig .tc .vmem S128x512 .bf16).view.read (Elt F) fs) Finset.univ) : sProp 𝕄)
      ⊢ dmaPay m (peer c) (recvS1).val := by
  show _ ⊢ oPts1 (peer (peer c)) (peer c) (outV m (peer c))
  rw [peer_peer]
  exact Entails.of_eq (pointsTo_congr (sent m c 1 (k0_off2_eq c) (k0_off6_eq c 1) fd hv))

/-- Piece 2, cast and landed, is what its receive cell hands over. -/
theorem landed2 (c : Dev nD) (fs : (cc0_scratch1 : Ref sig .tc).ty.Contents (Elt F)) (fd : (main_v1 : Ref sig .tc).ty.Contents (Elt F))
    (hv : (cv2 : Memref sig .tc .vmem S128x512 .bf16).view.read (Elt F) fs = k0_pay3 ((xSend2 c).view.read (Elt F) (xV m c))) :
    (oPts2 c (peer c) ((oSend2 c).view.write (Elt F) fd ((cv2 : Memref sig .tc .vmem S128x512 .bf16).view.read (Elt F) fs) Finset.univ) : sProp 𝕄)
      ⊢ dmaPay m (peer c) (recvS2).val := by
  show _ ⊢ oPts2 (peer (peer c)) (peer c) (outV m (peer c))
  rw [peer_peer]
  exact Entails.of_eq (pointsTo_congr (sent m c 2 (k0_off3_eq c) (k0_off6_eq c 2) fd hv))

/-- Piece 3, cast and landed, is what its receive cell hands over. -/
theorem landed3 (c : Dev nD) (fs : (cc0_scratch1 : Ref sig .tc).ty.Contents (Elt F)) (fd : (main_v1 : Ref sig .tc).ty.Contents (Elt F))
    (hv : (cv3 : Memref sig .tc .vmem S128x512 .bf16).view.read (Elt F) fs = k0_pay4 ((xSend3 c).view.read (Elt F) (xV m c))) :
    (oPts3 c (peer c) ((oSend3 c).view.write (Elt F) fd ((cv3 : Memref sig .tc .vmem S128x512 .bf16).view.read (Elt F) fs) Finset.univ) : sProp 𝕄)
      ⊢ dmaPay m (peer c) (recvS3).val := by
  show _ ⊢ oPts3 (peer (peer c)) (peer c) (outV m (peer c))
  rw [peer_peer]
  exact Entails.of_eq (pointsTo_congr (sent m c 3 (k0_off4_eq c) (k0_off6_eq c 3) fd hv))

end Cert.KernelIdeal.Hand

end
-- ==== Proof.KernelIdeal.Body.lean ====
/- One device's run of the kernel body. -/
module

public import proofs.«01_k».proof.Proof.KernelIdeal.Send

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts with -/

/-- The invariants of its own cells and of the partner's cells it credits, under some names. -/
def invs (K : Dev nD × Fin 9 → ℕ) (c : Dev nD) : sProp 𝕄 :=
  iprop(cellInv ER (xRd m) (K (c, 0)) (barCell c)
    ∗ cellInv ER (xRd m) (K (c, 1)) (sendCell0 c)
    ∗ cellInv ER (xRd m) (K (c, 2)) (sendCell1 c)
    ∗ cellInv ER (xRd m) (K (c, 3)) (sendCell2 c)
    ∗ cellInv ER (xRd m) (K (c, 4)) (sendCell3 c)
    ∗ cellInv ER (xRd m) (K (c, 5)) (recvCell0 c)
    ∗ cellInv ER (xRd m) (K (c, 6)) (recvCell1 c)
    ∗ cellInv ER (xRd m) (K (c, 7)) (recvCell2 c)
    ∗ cellInv ER (xRd m) (K (c, 8)) (recvCell3 c)
    ∗ cellInv ER (xRd m) (K (peer c, 0)) (barCell (peer c))
    ∗ cellInv ER (xRd m) (K (peer c, 5)) (recvCell0 (peer c))
    ∗ cellInv ER (xRd m) (K (peer c, 6)) (recvCell1 (peer c))
    ∗ cellInv ER (xRd m) (K (peer c, 7)) (recvCell2 (peer c))
    ∗ cellInv ER (xRd m) (K (peer c, 8)) (recvCell3 (peer c)))

/-- Invariants may be used again and again. -/
instance invs_persistent (K : Dev nD × Fin 9 → ℕ) (c : Dev nD) : BI.Persistent (invs m K c) := by unfold invs; infer_instance

/-- Its places in the round. -/
def places (c : Dev nD) : sProp 𝕄 :=
  iprop(atPos ER (barCell c) 0 ∅ 0
    ∗ atPos ER (sendCell0 c) 0 ∅ 0
    ∗ atPos ER (sendCell1 c) 0 ∅ 0
    ∗ atPos ER (sendCell2 c) 0 ∅ 0
    ∗ atPos ER (sendCell3 c) 0 ∅ 0
    ∗ atPos ER (recvCell0 c) 0 ∅ 0
    ∗ atPos ER (recvCell1 c) 0 ∅ 0
    ∗ atPos ER (recvCell2 c) 0 ∅ 0
    ∗ atPos ER (recvCell3 c) 0 ∅ 0)

/-- The round's start, known of every cell it credits. -/
def marks (c : Dev nD) : sProp 𝕄 :=
  iprop(reached ER (sendCell0 c) 0
    ∗ reached ER (sendCell1 c) 0
    ∗ reached ER (sendCell2 c) 0
    ∗ reached ER (sendCell3 c) 0
    ∗ reached ER (barCell (peer c)) 0
    ∗ reached ER (recvCell0 (peer c)) 0
    ∗ reached ER (recvCell1 (peer c)) 0
    ∗ reached ER (recvCell2 (peer c)) 0
    ∗ reached ER (recvCell3 (peer c)) 0)

/-- So may what is known of the rounds. -/
instance marks_persistent (c : Dev nD) : BI.Persistent (marks (F := F) c) := by unfold marks; infer_instance

/-- The duties it pays. -/
def payToks (c : Dev nD) : sProp 𝕄 :=
  iprop(dutyTok ER (sendCell0 c) 0 ()
    ∗ dutyTok ER (sendCell1 c) 0 ()
    ∗ dutyTok ER (sendCell2 c) 0 ()
    ∗ dutyTok ER (sendCell3 c) 0 ()
    ∗ dutyTok ER (barCell (peer c)) 0 ()
    ∗ dutyTok ER (recvCell0 (peer c)) 0 ()
    ∗ dutyTok ER (recvCell1 (peer c)) 0 ()
    ∗ dutyTok ER (recvCell2 (peer c)) 0 ()
    ∗ dutyTok ER (recvCell3 (peer c)) 0 ())

/-- The credits it spends waiting for its partner. -/
def creds (c : Dev nD) : sProp 𝕄 :=
  iprop(cred (tallyAt (barCell c) () 1)
    ∗ cred (tallyAt (recvCell0 c) () N)
    ∗ cred (tallyAt (recvCell1 c) () N)
    ∗ cred (tallyAt (recvCell2 c) () N)
    ∗ cred (tallyAt (recvCell3 c) () N))

/-! The semaphores of its own copies. -/

/-- The semaphore of the copy of piece 0 into the staging buffer. -/
abbrev ownS0 : DmaSem sig := ((cc0_scratch4.slice (Rect.unit (s := S4) ![0] S1.size inb_S4_S1_0)).squeeze S_ squeezes_S1_S_).sem
/-- The semaphore of the copy of piece 1 into the staging buffer. -/
abbrev ownS1 : DmaSem sig := ((cc0_scratch4.slice (Rect.unit (s := S4) ![1] S1.size inb_S4_S1_1)).squeeze S_ squeezes_S1_S_).sem
/-- The semaphore of the copy of piece 2 into the staging buffer. -/
abbrev ownS2 : DmaSem sig := ((cc0_scratch4.slice (Rect.unit (s := S4) ![2] S1.size inb_S4_S1_2)).squeeze S_ squeezes_S1_S_).sem
/-- The semaphore of the copy of piece 3 into the staging buffer. -/
abbrev ownS3 : DmaSem sig := ((cc0_scratch4.slice (Rect.unit (s := S4) ![3] S1.size inb_S4_S1_3)).squeeze S_ squeezes_S1_S_).sem
/-- The semaphore of the copy of the half kept, in, -/
abbrev ownS4 : DmaSem sig := cc0_scratch5.sem
/-- and out. -/
abbrev ownS5 : DmaSem sig := cc0_scratch6.sem

/-- The counters of its own copies, at zero. -/
def ownZero (c : Dev nD) : sProp 𝕄 :=
  iprop(semVal ((c : Thread nD τ), .dma ownS0) 0
    ∗ semVal ((c : Thread nD τ), .dma ownS1) 0
    ∗ semVal ((c : Thread nD τ), .dma ownS2) 0
    ∗ semVal ((c : Thread nD τ), .dma ownS3) 0
    ∗ semVal ((c : Thread nD τ), .dma ownS4) 0
    ∗ semVal ((c : Thread nD τ), .dma ownS5) 0)

/-- The counters of the exchange, at zero. -/
def ringZero (c : Dev nD) : sProp 𝕄 :=
  iprop(semVal (barCell c) 0
    ∗ semVal (sendCell0 c) 0
    ∗ semVal (sendCell1 c) 0
    ∗ semVal (sendCell2 c) 0
    ∗ semVal (sendCell3 c) 0
    ∗ semVal (recvCell0 c) 0
    ∗ semVal (recvCell1 c) 0
    ∗ semVal (recvCell2 c) 0
    ∗ semVal (recvCell3 c) 0)

/-- Its scratch buffers, at any contents. -/
def scratch (c : Dev nD) : sProp 𝕄 :=
  iprop((∃ f : (cc0_scratch0 : Ref sig .tc).ty.Contents (Elt F), ((c : Thread nD τ).loc cc0_scratch0) ↦{fullShare} f)
    ∗ (∃ f : (cc0_scratch1 : Ref sig .tc).ty.Contents (Elt F), ((c : Thread nD τ).loc cc0_scratch1) ↦{fullShare} f)
    ∗ (∃ f : (cc0_scratch2 : Ref sig .tc).ty.Contents (Elt F), (locM : Memref sig .tc .vmem S512x512 .f32).view.loc (c : Thread nD τ) ↦{fullShare} f)
    ∗ (∃ f : (cc0_scratch3 : Ref sig .tc).ty.Contents (Elt F), (lcvM : Memref sig .tc .vmem S512x512 .bf16).view.loc (c : Thread nD τ) ↦{fullShare} f))

/-- The same with the two staging buffers in their four blocks. -/
theorem scratch_open (c : Dev nD) : scratch (F := F) c
    ⊢ iprop(∃ (f0 : (cc0_scratch0 : Ref sig .tc).ty.Contents (Elt F)) (f1 : (cc0_scratch1 : Ref sig .tc).ty.Contents (Elt F)) (f2 : (cc0_scratch2 : Ref sig .tc).ty.Contents (Elt F)) (f3 : (cc0_scratch3 : Ref sig .tc).ty.Contents (Elt F)),
        (stPts0 c f0 ∗ stPts1 c f0 ∗ stPts2 c f0 ∗ stPts3 c f0) ∗ (cvPts0 c f1 ∗ cvPts1 c f1 ∗ cvPts2 c f1 ∗ cvPts3 c f1)
        ∗ ((locM : Memref sig .tc .vmem S512x512 .f32).view.loc (c : Thread nD τ) ↦{fullShare} f2)
        ∗ ((lcvM : Memref sig .tc .vmem S512x512 .bf16).view.loc (c : Thread nD τ) ↦{fullShare} f3)) := by
  unfold scratch
  simp only [st_split, cv_split]
  iintro ⟨⟨%f0, A⟩, ⟨%f1, B⟩, ⟨%f2, S2⟩, ⟨%f3, S3⟩⟩
  iexists f0, f1, f2, f3
  isplitl [A]; · iexact A
  isplitl [B]; · iexact B
  isplitl [S2]; · iexact S2
  iexact S3

/-- The two staging buffers put together again, whatever they hold. -/
theorem scratch_close (c : Dev nD) {a0 a1 a2 a3 : (cc0_scratch0 : Ref sig .tc).ty.Contents (Elt F)} {b0 b1 b2 b3 : (cc0_scratch1 : Ref sig .tc).ty.Contents (Elt F)}
    {f2 : (cc0_scratch2 : Ref sig .tc).ty.Contents (Elt F)} {f3 : (cc0_scratch3 : Ref sig .tc).ty.Contents (Elt F)} :
    iprop((stPts0 c a0 ∗ stPts1 c a1 ∗ stPts2 c a2 ∗ stPts3 c a3) ∗ (cvPts0 c b0 ∗ cvPts1 c b1 ∗ cvPts2 c b2 ∗ cvPts3 c b3)
        ∗ ((locM : Memref sig .tc .vmem S512x512 .f32).view.loc (c : Thread nD τ) ↦{fullShare} f2)
        ∗ ((lcvM : Memref sig .tc .vmem S512x512 .bf16).view.loc (c : Thread nD τ) ↦{fullShare} f3)) ⊢ scratch (F := F) c := by
  unfold scratch
  iintro ⟨A, B, S2, S3⟩
  isplitl [A]; · iapply (st_join c a0 a1 a2 a3) $$ A
  isplitl [B]; · iapply (cv_join c b0 b1 b2 b3) $$ B
  isplitl [S2]; · iexists f2; iexact S2
  iexists f3; iexact S3

/-- Its argument and result. -/
def arrays (c : Dev nD) (o : Buf (Elt F) ((c : Thread nD τ).loc main_v1)) : sProp 𝕄 :=
  iprop((((c : Thread nD τ).loc main_arg0) ↦{fullShare} xV m c) ∗ ((c : Thread nD τ).loc main_v1) ↦{fullShare} o)

/-- All that a device starts with but its buffers. -/
def ghost (K : Dev nD × Fin 9 → ℕ) (c : Dev nD) : sProp 𝕄 := iprop(invs m K c ∗ places c ∗ marks c ∗ payToks c ∗ ownZero c)

/-- Before the body. -/
def bodyPre (K : Dev nD × Fin 9 → ℕ) (c : Dev nD) (W : Waits sig Unit) : sProp 𝕄 :=
  iprop(ghost m K c ∗ creds c ∗ levAts L lv ∗ scratch c ∗ arrays m c (m ((c : Thread nD τ).loc main_v1)) ∗ owes (c : Thread nD τ) (O₀ c) W)

/-- After it: the result is there, the argument as before, every counter at zero. -/
def bodyPost (c : Dev nD) : sProp 𝕄 :=
  iprop(ringZero c ∗ ownZero c ∗ scratch c ∗ arrays m c (outV m c) ∗ ∃ W, owes (c : Thread nD τ) 0 W)

attribute [local sl_rounds] duties_bar amount_bar expect_bar payload_bar amount_dma duties_send0 expect_send0 payload_send0 duties_send1 expect_send1 payload_send1
  duties_send2 expect_send2 payload_send2 duties_send3 expect_send3 payload_send3 duties_recv0 expect_recv0 payload_recv0 duties_recv1 expect_recv1 payload_recv1
  duties_recv2 expect_recv2 payload_recv2 duties_recv3 expect_recv3 payload_recv3

set_option maxHeartbeats 4000000 in
/-- One device's run of the kernel, at any device: from what it starts with to its result, with the argument unchanged and
    every counter back at zero. -/
theorem sound_body (K : Dev nD × Fin 9 → ℕ) (c : Dev nD) (W : Waits sig Unit) (Kt : PUnit → sProp 𝕄) :
    iprop(bodyPre m K c W ∗ (bodyPost m c -∗ Kt ⟨⟩))
      ⊢ wp frame (wpE (defs₀ (F := F)) 𝒱₀ c none) Set.univ (bodyAt0 t0_0) Kt := by
  unfold bodyAt0
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId, dev1_eq, dev2_eq, dev3_eq, dev4_eq, dev5_eq]
  unfold bodyPre ghost invs places marks payToks creds ownZero arrays
  rw [x_split, o_split]
  iintro ⟨⟨⟨⟨#Ibar, #Isend0, #Isend1, #Isend2, #Isend3, #Irecv0, #Irecv1, #Irecv2, #Irecv3, #Jbar, #Jrecv0, #Jrecv1, #Jrecv2, #Jrecv3⟩, ⟨Atbar, Atsend0, Atsend1, Atsend2, Atsend3, Atrecv0, Atrecv1, Atrecv2, Atrecv3⟩, ⟨#Msend0, #Msend1, #Msend2, #Msend3, #Mbar, #Mrecv0, #Mrecv1, #Mrecv2, #Mrecv3⟩, ⟨Tsend0, Tsend1, Tsend2, Tsend3, Tbar, Trecv0, Trecv1, Trecv2, Trecv3⟩, ⟨Z0, Z1, Z2, Z3, Z4, Z5⟩⟩,
    ⟨Cbar, Crecv0, Crecv1, Crecv2, Crecv3⟩, #Hlev, HS, ⟨⟨X0, X1, X2, X3, XK⟩, ⟨V0, V1, V2, V3, VK⟩⟩, HO⟩, Hk⟩
  ihave HS2 := scratch_open c $$ HS
  icases HS2 with ⟨%f0, %f1, %f2, %f3, ⟨A0, A1, A2, A3⟩, ⟨B0, B1, B2, B3⟩, S2, S3⟩
  unfold O₀
  iapply (Rounds.wp_signal 𝒱₀ ER (xRd m) (c : Thread nD τ) none (dst := (peer c : Thread nD τ)) (κ := K (peer c, 0))
      (by rw [duties_bar]; exact Finset.mem_singleton_self _) ((amount_bar m (peer c) ()).trans (by decide)) () (R3 c + R2 c + R1 c + R0 c) rfl)
    $$ [HO Tbar V0 V1 V2 V3]
  · isplitr; · iexact Jbar
    isplitl [HO]; · iexact HO
    isplitl [Tbar]; · iexact Tbar
    isplitl [V0 V1 V2 V3]
    · rw [payload_bar]; unfold barPay; rw [peer_peer]
      isplitl [V0]; · iexists _; iexact V0
      isplitl [V1]; · iexists _; iexact V1
      isplitl [V2]; · iexists _; iexact V2
      iexists _; iexact V3
    · iexact Mbar
  iintro HO
  have hm4 := mayWait_4 (F := F) c
  sl_exec
  unfold barPay
  icases Atbar_pay1 with ⟨⟨%g0, V0⟩, ⟨%g1, V1⟩, ⟨%g2, V2⟩, ⟨%g3, V3⟩⟩
  iapply (wp_piece m c (dev2_eq c) cv0 (oSend0 c) sendS0 recvS0 (K (c, 1)) (K (peer c, 5)) _ g0 (R3 c + R2 c + R1 c) _ rfl _ (by decide) (by decide) rfl
      (some_contents _) (landed0 m c _ _ (sent_read k0_pay1 _ _ _))) $$ [B0 V0 HO Tsend0 Trecv0]
  · isplitr; · iexact Isend0
    isplitr; · iexact Jrecv0
    isplitl [B0]; · iexact B0
    isplitl [V0]; · iexact V0
    isplitl [HO]; · iexact HO
    isplitl [Tsend0]; · iexact Tsend0
    isplitr; · iexact Msend0
    isplitl [Trecv0]; · iexact Trecv0
    iexact Mrecv0
  iintro ⟨Csend0, HO⟩
  clear hm4
  have hm3 := mayWait_3 (F := F) c
  sl_exec
  iapply (wp_piece m c (dev3_eq c) cv1 (oSend1 c) sendS1 recvS1 (K (c, 2)) (K (peer c, 6)) _ g1 (R3 c + R2 c) _ rfl _ (by decide) (by decide) rfl
      (some_contents _) (landed1 m c _ _ (sent_read k0_pay2 _ _ _))) $$ [B1 V1 HO Tsend1 Trecv1]
  · isplitr; · iexact Isend1
    isplitr; · iexact Jrecv1
    isplitl [B1]; · iexact B1
    isplitl [V1]; · iexact V1
    isplitl [HO]; · iexact HO
    isplitl [Tsend1]; · iexact Tsend1
    isplitr; · iexact Msend1
    isplitl [Trecv1]; · iexact Trecv1
    iexact Mrecv1
  iintro ⟨Csend1, HO⟩
  clear hm3
  have hm2 := mayWait_2 (F := F) c
  sl_exec
  iapply (wp_piece m c (dev4_eq c) cv2 (oSend2 c) sendS2 recvS2 (K (c, 3)) (K (peer c, 7)) _ g2 (R3 c) _ rfl _ (by decide) (by decide) rfl
      (some_contents _) (landed2 m c _ _ (sent_read k0_pay3 _ _ _))) $$ [B2 V2 HO Tsend2 Trecv2]
  · isplitr; · iexact Isend2
    isplitr; · iexact Jrecv2
    isplitl [B2]; · iexact B2
    isplitl [V2]; · iexact V2
    isplitl [HO]; · iexact HO
    isplitl [Tsend2]; · iexact Tsend2
    isplitr; · iexact Msend2
    isplitl [Trecv2]; · iexact Trecv2
    iexact Mrecv2
  iintro ⟨Csend2, HO⟩
  clear hm2
  have hm1 := mayWait_1 (F := F) c
  sl_exec
  iapply (wp_piece m c (dev5_eq c) cv3 (oSend3 c) sendS3 recvS3 (K (c, 4)) (K (peer c, 8)) _ g3 0 _ (zero_add _).symm _ (by decide) (by decide) rfl
      (some_contents _) (landed3 m c _ _ (sent_read k0_pay4 _ _ _))) $$ [B3 V3 HO Tsend3 Trecv3]
  · isplitr; · iexact Isend3
    isplitr; · iexact Jrecv3
    isplitl [B3]; · iexact B3
    isplitl [V3]; · iexact V3
    isplitl [HO]; · iexact HO
    isplitl [Tsend3]; · iexact Tsend3
    isplitr; · iexact Msend3
    isplitl [Trecv3]; · iexact Trecv3
    iexact Mrecv3
  iintro ⟨Csend3, HO⟩
  sl_exec
  imod (Rounds.cell_close ER (xRd m) (Set.mem_univ (K (c, 0))) (fun h => h) (R := 0 + 1) (duties_later m (barCell c))) $$ [Atbar] with Qbar
  · isplitr; · iexact Ibar
    iexact Atbar
  imod (Rounds.cell_close ER (xRd m) (Set.mem_univ (K (c, 1))) (fun h => h) (R := 0 + 1) (duties_later m (sendCell0 c))) $$ [Atsend0] with Qsend0
  · isplitr; · iexact Isend0
    iexact Atsend0
  imod (Rounds.cell_close ER (xRd m) (Set.mem_univ (K (c, 2))) (fun h => h) (R := 0 + 1) (duties_later m (sendCell1 c))) $$ [Atsend1] with Qsend1
  · isplitr; · iexact Isend1
    iexact Atsend1
  imod (Rounds.cell_close ER (xRd m) (Set.mem_univ (K (c, 3))) (fun h => h) (R := 0 + 1) (duties_later m (sendCell2 c))) $$ [Atsend2] with Qsend2
  · isplitr; · iexact Isend2
    iexact Atsend2
  imod (Rounds.cell_close ER (xRd m) (Set.mem_univ (K (c, 4))) (fun h => h) (R := 0 + 1) (duties_later m (sendCell3 c))) $$ [Atsend3] with Qsend3
  · isplitr; · iexact Isend3
    iexact Atsend3
  imod (Rounds.cell_close ER (xRd m) (Set.mem_univ (K (c, 5))) (fun h => h) (R := 0 + 1) (duties_later m (recvCell0 c))) $$ [Atrecv0] with Qrecv0
  · isplitr; · iexact Irecv0
    iexact Atrecv0
  imod (Rounds.cell_close ER (xRd m) (Set.mem_univ (K (c, 6))) (fun h => h) (R := 0 + 1) (duties_later m (recvCell1 c))) $$ [Atrecv1] with Qrecv1
  · isplitr; · iexact Irecv1
    iexact Atrecv1
  imod (Rounds.cell_close ER (xRd m) (Set.mem_univ (K (c, 7))) (fun h => h) (R := 0 + 1) (duties_later m (recvCell2 c))) $$ [Atrecv2] with Qrecv2
  · isplitr; · iexact Irecv2
    iexact Atrecv2
  imod (Rounds.cell_close ER (xRd m) (Set.mem_univ (K (c, 8))) (fun h => h) (R := 0 + 1) (duties_later m (recvCell3 c))) $$ [Atrecv3] with Qrecv3
  · isplitr; · iexact Irecv3
    iexact Atrecv3
  ihave VK' := (Entails.of_eq (pointsTo_congr (keep_out m c _ _ _))) $$ VK
  rw [wp_ret]; imodintro
  iapply Hk
  unfold bodyPost ringZero ownZero arrays
  rw [x_split, o_split]
  isplitl [Qbar Qsend0 Qsend1 Qsend2 Qsend3 Qrecv0 Qrecv1 Qrecv2 Qrecv3]
  · isplitl [Qbar]; · iexact Qbar
    isplitl [Qsend0]; · iexact Qsend0
    isplitl [Qsend1]; · iexact Qsend1
    isplitl [Qsend2]; · iexact Qsend2
    isplitl [Qsend3]; · iexact Qsend3
    isplitl [Qrecv0]; · iexact Qrecv0
    isplitl [Qrecv1]; · iexact Qrecv1
    isplitl [Qrecv2]; · iexact Qrecv2
    iexact Qrecv3
  isplitl [Z0 Z1 Z2 Z3 Z4 Z5]
  · isplitl [Z0]; · iexact Z0
    isplitl [Z1]; · iexact Z1
    isplitl [Z2]; · iexact Z2
    isplitl [Z3]; · iexact Z3
    isplitl [Z4]; · iexact Z4
    iexact Z5
  isplitl [A0 A1 A2 A3 Atsend0_pay1 Atsend1_pay1 Atsend2_pay1 Atsend3_pay1 S2 S3]
  · iapply (scratch_close c)
    isplitl [A0 A1 A2 A3]
    · isplitl [A0]; · iexact A0
      isplitl [A1]; · iexact A1
      isplitl [A2]; · iexact A2
      iexact A3
    isplitl [Atsend0_pay1 Atsend1_pay1 Atsend2_pay1 Atsend3_pay1]
    · isplitl [Atsend0_pay1]; · iexact Atsend0_pay1
      isplitl [Atsend1_pay1]; · iexact Atsend1_pay1
      isplitl [Atsend2_pay1]; · iexact Atsend2_pay1
      iexact Atsend3_pay1
    isplitl [S2]; · iexact S2
    iexact S3
  isplitl [X0 X1 X2 X3 XK Atrecv0_pay1 Atrecv1_pay1 Atrecv2_pay1 Atrecv3_pay1 VK']
  · isplitl [X0 X1 X2 X3 XK]
    · isplitl [X0]; · iexact X0
      isplitl [X1]; · iexact X1
      isplitl [X2]; · iexact X2
      isplitl [X3]; · iexact X3
      iexact XK
    isplitl [Atrecv0_pay1]; · iexact Atrecv0_pay1
    isplitl [Atrecv1_pay1]; · iexact Atrecv1_pay1
    isplitl [Atrecv2_pay1]; · iexact Atrecv2_pay1
    isplitl [Atrecv3_pay1]; · iexact Atrecv3_pay1
    iexact VK'
  iexists _
  iexact HO

end Cert.KernelIdeal.Hand

end
-- ==== Proof.KernelIdeal.Alloc.lean ====
/- From the counters at zero to the exchange's tokens: what each device starts with, dealt out to all of them at once. -/
module

public import proofs.«01_k».proof.Proof.KernelIdeal.Body

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells of the exchange -/

/-- A device's semaphores in the exchange: the barrier's, the four sends', the four receipts'. -/
abbrev csem : Fin 9 → SemLoc sig := fun
  | 0 => .reg barS
  | 1 => .dma sendS0
  | 2 => .dma sendS1
  | 3 => .dma sendS2
  | 4 => .dma sendS3
  | 5 => .dma recvS0
  | 6 => .dma recvS1
  | 7 => .dma recvS2
  | 8 => .dma recvS3

/-- Their cells, of all devices. -/
abbrev kcell (ck : Dev nD × Fin 9) : GSem nD τ sig := ((ck.1 : Thread nD τ), csem ck.2)

/-- The nine semaphores are different ones. -/
theorem csem_injective : Function.Injective csem := by decide

/-- The cells are all different. -/
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- All cells of the exchange. -/
def ringCells : Finset (GSem nD τ sig) := Finset.univ.map ⟨kcell, kcell_injective⟩

/-- The one duty of each cell. -/
abbrev tokOf (ck : Dev nD × Fin 9) : GSem nD τ sig × ℕ × Unit := (kcell ck, 0, ())

/-- The duties are all different. -/
theorem tokOf_injective : Function.Injective tokOf := fun _ _ h => kcell_injective (congrArg Prod.fst h)

/-- All duties of the exchange. -/
def ringToks : Finset (GSem nD τ sig × ℕ × Unit) := Finset.univ.map ⟨tokOf, tokOf_injective⟩

/-- The element the proof starts from. -/
def u₀ : UU := (initOf (Pipeline.cells cfgs cellOf_inj) (Pipeline.launchToks cfgs cellOf_inj), (initOf ringCells ringToks, 1))

/-- Nine, one by one. -/
theorem bigSep_fin9 (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The duties of a device's own cells. -/
def toks (c : Dev nD) : sProp 𝕄 :=
  iprop(dutyTok ER (barCell c) 0 ()
    ∗ dutyTok ER (sendCell0 c) 0 ()
    ∗ dutyTok ER (sendCell1 c) 0 ()
    ∗ dutyTok ER (sendCell2 c) 0 ()
    ∗ dutyTok ER (sendCell3 c) 0 ()
    ∗ dutyTok ER (recvCell0 c) 0 ()
    ∗ dutyTok ER (recvCell1 c) 0 ()
    ∗ dutyTok ER (recvCell2 c) 0 ()
    ∗ dutyTok ER (recvCell3 c) 0 ())

/-- What each device is dealt at first. -/
def G (c : Dev nD) : sProp 𝕄 :=
  iprop((bigSep Finset.univ fun k : Fin 9 => roundState ER (xRd m) (kcell (c, k)) 0)
    ∗ (bigSep Finset.univ fun k : Fin 9 => iprop(atPos ER (kcell (c, k)) 0 ∅ 0 ∗ reached ER (kcell (c, k)) 0)) ∗ toks c)

/-- What becomes of it. -/
def G' (c : Dev nD) : sProp 𝕄 := iprop(∃ K, ghost m K c)

/-- The exchange's element, dealt to the devices. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 9 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin9]; rfl
  iintro HX
  imod (Rounds.fund ER (xRd m) ringCells ringToks) $$ HX with ⟨Hst, Hr, Hat, Htok⟩
  imodintro
  ihave Hst' := (Entails.of_eq (hX fun g => roundState ER (xRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters at zero -/

/-- The kernel's own semaphores. -/
abbrev osem : Fin 14 → SemLoc sig := fun q => .dma q

/-- They are its own, different, and none of the launch's. -/
theorem ownSemFacts : Pipeline.OwnSemFacts cfg0.spec osem := by decide

/-- The kernel's own counters, one by one. -/
theorem ownSems0_eq (c : Dev nD) : (Pipeline.ownSems0 (Ix := Unit) (Name := ℕ) (U := UU) (Lvl := ℕ) (Val := Elt F) (τ := τ) osem c : sProp 𝕄)
    = iprop(semVal ((c : Thread nD τ), .dma ownS0) 0
      ∗ semVal ((c : Thread nD τ), .dma ownS1) 0
      ∗ semVal ((c : Thread nD τ), .dma ownS2) 0
      ∗ semVal ((c : Thread nD τ), .dma ownS3) 0
      ∗ semVal ((c : Thread nD τ), .dma ownS4) 0
      ∗ semVal ((c : Thread nD τ), .dma ownS5) 0
      ∗ semVal (sendCell0 c) 0
      ∗ semVal (sendCell1 c) 0
      ∗ semVal (sendCell2 c) 0
      ∗ semVal (sendCell3 c) 0
      ∗ semVal (recvCell0 c) 0
      ∗ semVal (recvCell1 c) 0
      ∗ semVal (recvCell2 c) 0
      ∗ semVal (recvCell3 c) 0) := by
  rw [Pipeline.ownSems0_eq_of_list c osem [0, 1, 2, 3, 4, 5, 6, 7, 8, 9, 10, 11, 12, 13] (by decide) (by decide)]; rfl

/-- The barrier's counter is the only other. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's counters: those of its own copies and those of the exchange. -/
theorem sems0_eq (c : Dev nD) :
    iprop(Pipeline.ownSems0 (Ix := Unit) (Name := ℕ) (U := UU) (Lvl := ℕ) (Val := Elt F) (τ := τ) osem c ∗ unscopedSems0 c)
      ⊢ (iprop(ownZero c ∗ bigSep Finset.univ fun k : Fin 9 => semVal (kcell (c, k)) 0) : sProp 𝕄) := by
  rw [ownSems0_eq, unscopedSems0_eq, bigSep_fin9]
  unfold ownZero
  iintro ⟨⟨Z0, Z1, Z2, Z3, Z4, Z5, HX⟩, HB⟩
  isplitr [HX HB]
  · isplitl [Z0]; · iexact Z0
    isplitl [Z1]; · iexact Z1
    isplitl [Z2]; · iexact Z2
    isplitl [Z3]; · iexact Z3
    isplitl [Z4]; · iexact Z4
    iexact Z5
  isplitl [HB]; · iexact HB
  iexact HX

/-- And back. -/
theorem sems0_back (c : Dev nD) : (iprop(ringZero c ∗ ownZero c) : sProp 𝕄)
    ⊢ iprop(unscopedSems0 c ∗ Pipeline.ownSems0 (Ix := Unit) (Name := ℕ) (U := UU) (Lvl := ℕ) (Val := Elt F) (τ := τ) osem c) := by
  rw [ownSems0_eq, unscopedSems0_eq]
  unfold ringZero ownZero
  iintro ⟨⟨HB, HX⟩, Z0, Z1, Z2, Z3, Z4, Z5⟩
  isplitl [HB]; · iexact HB
  isplitl [Z0]; · iexact Z0
  isplitl [Z1]; · iexact Z1
  isplitl [Z2]; · iexact Z2
  isplitl [Z3]; · iexact Z3
  isplitl [Z4]; · iexact Z4
  isplitl [Z5]; · iexact Z5
  iexact HX

/-! ## The invariants -/

/-- What the invariants of one device's cells are made from, and what is left of its share. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (xRd m) κ (kcell (c, k))))
          ∗ (bigSep Finset.univ fun k => iprop(atPos ER (kcell (c, k)) 0 ∅ 0 ∗ reached ER (kcell (c, k)) 0)) ∗ toks c ∗ ownZero c) := by
  unfold G
  iintro ⟨Hos, Hus, Hst, Hat, Htok⟩
  ihave Hv := (sems0_eq (F := F) c) $$ [Hos Hus]
  · isplitl [Hos] <;> iassumption
  icases Hv with ⟨HZ, Hv⟩
  imod (show iprop((bigSep Finset.univ fun k : Fin 9 => semVal (kcell (c, k)) 0) ∗ bigSep Finset.univ fun k : Fin 9 => roundState ER (xRd m) (kcell (c, k)) 0)
      ⊢ (|={Set.univ}=> bigSep Finset.univ fun k => iprop(∃ κ : ℕ, cellInv ER (xRd m) κ (kcell (c, k))) : sProp 𝕄) from by
        rw [← bigSep_sep']
        exact (bigSep_mono fun k _ => (Rounds.body_intro ER (xRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact HZ

/-- What every device may know: all invariants, and that every cell's round has begun. -/
def records (K : Dev nD × Fin 9 → ℕ) : sProp 𝕄 :=
  iprop((bigSep Finset.univ fun ck : Dev nD × Fin 9 => cellInv ER (xRd m) (K ck) (kcell ck))
    ∗ bigSep Finset.univ fun ck : Dev nD × Fin 9 => reached ER (kcell ck) 0)

/-- It may be told to all. -/
instance records_persistent (K : Dev nD × Fin 9 → ℕ) : BI.Persistent (records m K) := by unfold records; infer_instance

/-- One cell's invariant out of all. -/
theorem inv_at (K : Dev nD × Fin 9 → ℕ) (ck : Dev nD × Fin 9) :
    (bigSep Finset.univ fun ck : Dev nD × Fin 9 => (cellInv ER (xRd m) (K ck) (kcell ck) : sProp 𝕄)) ⊢ cellInv ER (xRd m) (K ck) (kcell ck) :=
  bigSep_elim (Finset.mem_univ ck)

/-- One cell's begun round out of all. -/
theorem reached_at (ck : Dev nD × Fin 9) :
    (bigSep Finset.univ fun ck : Dev nD × Fin 9 => (reached ER (kcell ck) 0 : sProp 𝕄)) ⊢ reached ER (kcell ck) 0 :=
  bigSep_elim (Finset.mem_univ ck)

/-- What is one device's alone. -/
def linear (c : Dev nD) : sProp 𝕄 := iprop((bigSep Finset.univ fun k : Fin 9 => atPos ER (kcell (c, k)) 0 ∅ 0) ∗ payToks c ∗ ownZero c)

/-- A device's invariants out of all. -/
theorem invs_intro (K : Dev nD × Fin 9 → ℕ) (c : Dev nD) :
    (bigSep Finset.univ fun ck : Dev nD × Fin 9 => (cellInv ER (xRd m) (K ck) (kcell ck) : sProp 𝕄)) ⊢ invs m K c := by
  unfold invs
  iintro #HI
  isplitr; · iapply (inv_at m K (c, 0)); iexact HI
  isplitr; · iapply (inv_at m K (c, 1)); iexact HI
  isplitr; · iapply (inv_at m K (c, 2)); iexact HI
  isplitr; · iapply (inv_at m K (c, 3)); iexact HI
  isplitr; · iapply (inv_at m K (c, 4)); iexact HI
  isplitr; · iapply (inv_at m K (c, 5)); iexact HI
  isplitr; · iapply (inv_at m K (c, 6)); iexact HI
  isplitr; · iapply (inv_at m K (c, 7)); iexact HI
  isplitr; · iapply (inv_at m K (c, 8)); iexact HI
  isplitr; · iapply (inv_at m K (peer c, 0)); iexact HI
  isplitr; · iapply (inv_at m K (peer c, 5)); iexact HI
  isplitr; · iapply (inv_at m K (peer c, 6)); iexact HI
  isplitr; · iapply (inv_at m K (peer c, 7)); iexact HI
  iapply (inv_at m K (peer c, 8)); iexact HI

/-- What a device knows of the rounds out of all. -/
theorem marks_intro (c : Dev nD) : (bigSep Finset.univ fun ck : Dev nD × Fin 9 => (reached ER (kcell ck) 0 : sProp 𝕄)) ⊢ marks c := by
  unfold marks
  iintro #HR
  isplitr; · iapply (reached_at (F := F) (c, 1)); iexact HR
  isplitr; · iapply (reached_at (F := F) (c, 2)); iexact HR
  isplitr; · iapply (reached_at (F := F) (c, 3)); iexact HR
  isplitr; · iapply (reached_at (F := F) (c, 4)); iexact HR
  isplitr; · iapply (reached_at (F := F) (peer c, 0)); iexact HR
  isplitr; · iapply (reached_at (F := F) (peer c, 5)); iexact HR
  isplitr; · iapply (reached_at (F := F) (peer c, 6)); iexact HR
  isplitr; · iapply (reached_at (F := F) (peer c, 7)); iexact HR
  iapply (reached_at (F := F) (peer c, 8)); iexact HR

/-- What a device starts with, from the common knowledge and its own. -/
theorem ghost_intro (K : Dev nD × Fin 9 → ℕ) (c : Dev nD) : iprop(records m K ∗ linear c) ⊢ G' m c := by
  unfold records linear G' ghost places
  rw [bigSep_fin9]
  iintro ⟨⟨#HI, #HR⟩, Hat, Hpay, HZ⟩
  iexists K
  isplitr; · iapply (invs_intro m K c); iexact HI
  isplitl [Hat]; · iexact Hat
  isplitr; · iapply (marks_intro (F := F) c); iexact HR
  isplitl [Hpay] <;> iassumption

/-- The duties of the barrier and of the receipts go to the partners. -/
theorem toks_around : (bigSep Finset.univ fun c : Dev nD => (toks c : sProp 𝕄)) ⊢ bigSep Finset.univ fun c : Dev nD => payToks c := by
  unfold toks payToks
  simp only [bigSep_sep']
  rw [bigSep_univ_equiv swap (fun c : Dev nD => (dutyTok ER (barCell c) 0 () : sProp 𝕄)),
    bigSep_univ_equiv swap (fun c : Dev nD => (dutyTok ER (recvCell0 c) 0 () : sProp 𝕄)),
    bigSep_univ_equiv swap (fun c : Dev nD => (dutyTok ER (recvCell1 c) 0 () : sProp 𝕄)),
    bigSep_univ_equiv swap (fun c : Dev nD => (dutyTok ER (recvCell2 c) 0 () : sProp 𝕄)),
    bigSep_univ_equiv swap (fun c : Dev nD => (dutyTok ER (recvCell3 c) 0 () : sProp 𝕄))]
  iintro ⟨B, S0, S1, S2, S3, R⟩
  isplitl [S0]; · iexact S0
  isplitl [S1]; · iexact S1
  isplitl [S2]; · iexact S2
  isplitl [S3]; · iexact S3
  isplitl [B]; · iexact B
  iexact R

/-- Common knowledge may be used at every device. -/
theorem bigSep_with_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices' shares, with the invariants named and the duties handed to those who pay them. -/
theorem regroup :
    (bigSep Finset.univ fun c : Dev nD => iprop((bigSep Finset.univ fun k => iprop(∃ κ : ℕ, cellInv ER (xRd m) κ (kcell (c, k))))
          ∗ (bigSep Finset.univ fun k => iprop(atPos ER (kcell (c, k)) 0 ∅ 0 ∗ reached ER (kcell (c, k)) 0)) ∗ toks c ∗ ownZero c) : sProp 𝕄)
      ⊢ bigSep Finset.univ (G' m) := by
  rw [bigSep_sep', bigSep_sep', bigSep_sep', ← bigSep_univ_prod (fun ck : Dev nD × Fin 9 => iprop(∃ κ : ℕ, cellInv ER (xRd m) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok, HZ⟩
  ihave HK := (BI.bigSep_exists_pi Finset.univ (fun (ck : Dev nD × Fin 9) (κ : ℕ) => (cellInv ER (xRd m) κ (kcell ck) : sProp 𝕄))) $$ HI
  icases HK with ⟨%K, #HI⟩
  ihave Htk := (toks_around (F := F)) $$ Htok
  iapply (bigSep_with_known (R := records m K) fun c _ => ghost_intro m K c)
  isplitr
  · unfold records; isplitl; · iexact HI
    iexact HR
  · unfold linear
    simp only [bigSep_sep']
    isplitl [Hat]; · iexact Hat
    isplitl [Htk] <;> iassumption

/-- The one step taken for all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Hand

end
-- ==== Proof.KernelIdeal.Launch.lean ====
/- The whole run: from any memory, every device's result is the one named, its argument is unchanged and every counter
   is at zero. -/
module

public import proofs.«01_k».proof.Proof.KernelIdeal.Alloc
public import Idealize.ShloMosaic.Lib.Pipeline.CollectiveSegs

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the launch's credit is -/

/-- Two devices with one barrier cell are one. -/
theorem cell_dev {a b : Dev nD} {sm sm' : SemLoc sig} (h : (((a : Thread nD τ), sm) : GSem nD τ sig) = ((b : Thread nD τ), sm')) : a = b :=
  congrArg (fun g : GSem nD τ sig => g.1.1) h

/-- One debt at a cell of a partner, seen at a cell of device `c`: it is there if the semaphore is the same and the debtor
    is the partner of `c`. -/
theorem owed_at (d c : Dev nD) (sm sm' : SemLoc sig) (n : ℕ) :
    (tallyAt ((peer d : Thread nD τ), sm') () n : CellTallies nD τ sig Unit) ((c : Thread nD τ), sm) () = if d = peer c then (if sm = sm' then n else 0) else 0 := by
  rw [tallyAt_apply]
  by_cases h : d = peer c
  · subst h
    rw [peer_peer, if_pos rfl]
    by_cases hs : sm = sm'
    · subst hs; rw [if_pos ⟨rfl, rfl⟩, if_pos rfl]
    · rw [if_neg (fun ⟨h1, _⟩ => hs (congrArg Prod.snd h1)), if_neg hs]
  · rw [if_neg (fun ⟨h1, _⟩ => h (by rw [cell_dev h1, peer_peer])), if_neg h]

/-- What is owed at a semaphore by the partner of its device. -/
def due (sm : SemLoc sig) : ℕ :=
  (if sm = .dma recvS3 then N else 0) + (if sm = .dma recvS2 then N else 0) + (if sm = .dma recvS1 then N else 0) + (if sm = .dma recvS0 then N else 0)
    + (if sm = .reg barS then 1 else 0)

/-- What device `d` owes at a cell of device `c`. -/
theorem owed_dev (d c : Dev nD) (sm : SemLoc sig) : O₀ d ((c : Thread nD τ), sm) () = if d = peer c then due sm else 0 := by
  show R3 d _ () + R2 d _ () + R1 d _ () + R0 d _ () + (tallyAt (barCell (peer d)) () 1 : CellTallies nD τ sig Unit) _ () = _
  rw [owed_at, owed_at, owed_at, owed_at, owed_at]
  by_cases h : d = peer c
  · simp only [if_pos h]; rfl
  · simp only [if_neg h, Nat.add_zero]

/-- What all devices' debts come to at a cell. -/
theorem launch_at (c : Dev nD) (sm : SemLoc sig) {n : ℕ} (h : due sm = n) :
    tallyOn ((c : Thread nD τ), sm) (launchCredit (Pipeline.owing O₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, Finset.sum_congr rfl fun d _ => owed_dev d c sm,
    Finset.sum_ite_eq' Finset.univ (peer c) fun _ => due sm, if_pos (Finset.mem_univ _), h]

/-- One unit is owed at the barrier; -/
theorem due_bar : due (.reg barS) = 1 := by unfold due; simp
/-- a piece's credit at each receive cell: the first, -/
theorem due_recv0 : due (.dma recvS0) = N := by unfold due; simp +decide
/-- the second, -/
theorem due_recv1 : due (.dma recvS1) = N := by unfold due; simp +decide
/-- the third, -/
theorem due_recv2 : due (.dma recvS2) = N := by unfold due; simp +decide
/-- the fourth. -/
theorem due_recv3 : due (.dma recvS3) = N := by unfold due; simp +decide

/-- The credit a device is dealt holds what it spends waiting. -/
theorem creds_intro (c : Dev nD) : (Pipeline.launchCred O₀ c : sProp 𝕄) ⊢ creds c := by
  unfold Pipeline.launchCred creds
  refine (Entails.of_eq (by
    rw [bigSep_univ_at _ (SemLoc.reg barS),
      BI.bigSep_erase (show SemLoc.dma recvS0 ∈ Finset.univ.erase (SemLoc.reg barS) by decide),
      BI.bigSep_erase (show SemLoc.dma recvS1 ∈ (Finset.univ.erase (SemLoc.reg barS)).erase (SemLoc.dma recvS0) by decide),
      BI.bigSep_erase (show SemLoc.dma recvS2 ∈ ((Finset.univ.erase (SemLoc.reg barS)).erase (SemLoc.dma recvS0)).erase (SemLoc.dma recvS1) by decide),
      BI.bigSep_erase (show SemLoc.dma recvS3 ∈ (((Finset.univ.erase (SemLoc.reg barS)).erase (SemLoc.dma recvS0)).erase (SemLoc.dma recvS1)).erase (SemLoc.dma recvS2) by decide),
      launch_at c _ due_bar, launch_at c _ due_recv0, launch_at c _ due_recv1, launch_at c _ due_recv2, launch_at c _ due_recv3]
    rfl)).trans (?_ : iprop(cred (tallyAt (barCell c) () 1) ∗ cred (tallyAt (recvCell0 c) () N) ∗ cred (tallyAt (recvCell1 c) () N)
      ∗ cred (tallyAt (recvCell2 c) () N) ∗ cred (tallyAt (recvCell3 c) () N) ∗ _) ⊢ _)
  iintro ⟨B, V0, V1, V2, V3, -⟩
  isplitl [B]; · iexact B
  isplitl [V0]; · iexact V0
  isplitl [V1]; · iexact V1
  isplitl [V2]; · iexact V2
  iexact V3

/-! ## Before and after the one run of the body -/

/-- What a device enters the kernel with but its scratch buffers. -/
def start (c : Dev nD) : sProp 𝕄 :=
  iprop(G' m c ∗ creds c ∗ levAts L lv ∗ arrays m c (m ((c : Thread nD τ).loc main_v1)))

/-- Before the body. -/
def Φ₀ (c : Dev nD) : sProp 𝕄 := iprop(start m c ∗ scratch c)
/-- After it. -/
def Φ₁ (c : Dev nD) : sProp 𝕄 := iprop(ringZero c ∗ ownZero c ∗ scratch c ∗ arrays m c (outV m c))

/-- The launch's data: there is no windowed array, only what holds before and after. -/
def dats (_ : Fin 1) (c : Dev nD) : Dat τ (Elt F) Unit ℕ UU ℕ cfg0 c where
  A w := Fin.elim0 w
  after w _ := Fin.elim0 w
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The body does what the launch asks of it. -/
theorem body_obligation (c : Dev nD) : BodyObligation (dats (F := F) m 0 c) (defs₀ (F := F)) 𝒱₀ () Set.univ := fun t => by
  rw [fin_N0 t]
  show iprop(Φ₀ m c ∗ (dats m 0 c).owesAt () t0_0.castSucc ∗ _) ⊢ wp frame (wpE (defs₀ (F := F)) 𝒱₀ c none) Set.univ (bodyAt0 t0_0) (fun _ => iprop(Φ₁ m c ∗ (dats m 0 c).owesAt () t0_0.succ ∗ _))
  unfold Φ₀ Φ₁ start G' Dat.owesAt Pipeline.owesWithin
  iintro ⟨⟨⟨⟨%K, Hg⟩, Hc, Hl, Ha⟩, Hs⟩, ⟨%W, %hW, HO⟩, Hw⟩
  iapply (sound_body m K c W _)
  unfold bodyPre bodyPost
  isplitr [Hw]
  · isplitl [Hg]; · iexact Hg
    isplitl [Hc]; · iexact Hc
    isplitl [Hl]; · iexact Hl
    isplitl [Hs]; · iexact Hs
    isplitl [Ha]; · iexact Ha
    iexact HO
  iintro ⟨Hr, Hz, Hs, Ha, ⟨%W', HO⟩⟩
  isplitl [Hr Hz Hs Ha]
  · isplitl [Hr]; · iexact Hr
    isplitl [Hz]; · iexact Hz
    isplitl [Hs] <;> iassumption
  isplitl [HO]
  · iexists W'
    isplitr; · ipureintro; exact fun _ _ => Or.inl trivial
    iexact HO
  iexact Hw

/-! ## The launch's conditions -/

/-- A device's holdings at the start are those it enters with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := (creds_intro (F := F) c) $$ Hcr
  imodintro
  unfold start arrays
  isplitl
  · isplitl [HG]; · iexact HG
    isplitl [Hc]; · iexact Hc
    isplitl [Hlev]; · iexact Hlev
    isplitl [Hx] <;> iassumption
  · iempintro

/-- With the scratch buffers it is what holds before the body. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- What holds after the body: the counters at zero, the arrays, and the scratch buffers to give back. -/
theorem phi1_exit (c : Dev nD) :
    (dats m 0 c).Φ (Fin.last cfg0.N) ⊢ iprop((unscopedSems0 c ∗ arrays m c (outV m c)) ∗ Pipeline.ownSems0 osem c ∗ Pipeline.scopedRest cfg0.spec c) := by
  rw [show (dats m 0 c).Φ (Fin.last cfg0.N) = Φ₁ m c from rfl, scopedRest0_eq]
  unfold Φ₁ scratch
  iintro ⟨Hr, Hz, Hs, Ha⟩
  ihave H := (sems0_back (F := F) c) $$ [Hr Hz]
  · isplitl [Hr] <;> iassumption
  icases H with ⟨Hu, Ho⟩
  isplitl [Hu Ha]
  · isplitl [Hu] <;> iassumption
  isplitl [Ho]; · iexact Ho
  iexact Hs

/-- There is no windowed array to wait for. -/
theorem waits (c : Dev nD) : (levAts L lv : sProp 𝕄) ⊢ Pipeline.cellsWaits cfgs (dats m) () 0 c :=
  Pipeline.cellsWaits_intro cfgs (dats m) () 0 c fun w _ _ => Fin.elim0 w

/-- A device's arrays and counters, read off the final state. -/
theorem final_read (c : Dev nD) (s' : Phys nD τ sig (Elt F)) :
    iprop((unscopedSems0 c ∗ arrays m c (outV m c)) ∗ emp ∗ SI s')
      ⊢ |={Set.univ}=> (iprop(⌜(s'.mem.mem ((c : Thread nD τ).loc main_v1) = outV m c
          ∧ s'.mem.mem ((c : Thread nD τ).loc main_arg0) = m ((c : Thread nD τ).loc main_arg0))
          ∧ ∀ sm : SemLoc sig, sm.isScoped .tc = false → s'.mem.sem ((c.tc : Thread nD τ), sm) = 0⌝ ∗ SI s') : sProp 𝕄) := by
  unfold arrays
  iintro ⟨⟨Hu, Hx, Ho⟩, -, HSI⟩
  icombine HSI Hx gives %hx
  icombine HSI Ho gives %ho
  imod (Pipeline.unscopedSems0_read (X := unscopedSems0 c) (c := c) fupd_intro s') $$ [Hu HSI] with ⟨%hs, HSI⟩
  · isplitl [Hu] <;> iassumption
  imodintro
  isplitr
  · ipureintro
    exact ⟨⟨funext fun i => ho i (Finset.mem_univ i), funext fun i => hx i (Finset.mem_univ i)⟩, hs⟩
  iexact HSI

/-! ## The run -/

set_option maxRecDepth 8000 in
/-- From any memory with the counters at zero the kernel ends on every device, with the result named, the argument
    unchanged and the counters at zero. -/
theorem run_main : θ_run defs (onTc (τ := τ) (main (F := F))) ⟨m, fun _ => 0, ρ⟩ (fun r =>
    (∀ c : Dev nD, r.2.mem ((c : Thread nD τ).loc main_v1) = outV m c
      ∧ r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => Fin.elim0 w) (harr := arr_whole0) (hstage := stage_whole0) (hshare := fun _ w => Fin.elim0 w)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H2 := (own_pair_emb _ _ _) $$ HX
      icases H2 with ⟨HE, -⟩
      imod (show BI.own (((Emb.inl : Emb (URounds (GSem nD τ sig) Unit) (URounds (GSem nD τ sig) Unit × Counters)).trans embR) (initOf ringCells ringToks))
          ⊢ (|==> bigSep Finset.univ (G m) : sProp 𝕄) from fund_ring m) $$ HE with HG
      imodintro
      isplitl [HP] <;> iassumption)
    (hglob := glob m)
    (hA := fun _ w => Fin.elim0 w) (hpf := fun _ k => k.elim0)
    (X := start m) (Y := fun c => iprop(unscopedSems0 c ∗ arrays m c (outV m c))) (Z := fun _ => iprop(emp))
    (hX := start_intro m ρ) (hin := phi0_intro m) (hout := phi1_exit m)
    (QY := fun c s => (s.mem ((c : Thread nD τ).loc main_v1) = outV m c
          ∧ s.mem ((c : Thread nD τ).loc main_arg0) = m ((c : Thread nD τ).loc main_arg0))
          ∧ ∀ sm : SemLoc sig, sm.isScoped .tc = false → s.sem ((c.tc : Thread nD τ), sm) = 0)
    (hY := final_read m)
    (hQ := fun _ h hs => ⟨fun c => (h c).2.2.1, sem_eq_zero hs fun c => (h c).2.2.2⟩)

end Cert.KernelIdeal.Hand

end
-- ==== Proof.KernelIdeal.Value.lean ====
/- What the devices' results are, put together: the whole array cast, cut into column blocks. -/
module

public import proofs.«01_k».proof.Proof.KernelIdeal.Launch
public import Idealize.ShloMosaic.Lib.Layout

@[expose] public section

noncomputable section

namespace Cert.KernelIdeal.Hand

open Cert.KernelIdeal Cert.KernelIdeal.Gen

open Idealize.ShloMosaic
open Idealize.ShloMosaic.TcCoe
open Idealize.SL Idealize.SL.Sem

variable {F : FTy → Type} [FloatOps F]

variable (m : (ℓ : Loc nD τ sig) → Buf (Elt F) ℓ)

/-- The shape of the whole array. -/
abbrev Whole : Shape := ⟨2, ![1024, 1024]⟩

/-- The block a device has of an array cut along its `x` coordinate only is numbered by that coordinate: by rows; -/
theorem rows_of (c : Dev nD) : ((Layout.meshBlock [2, 4, 4] ![[0], []] c) 0).val = c.val / 16 ∧ ((Layout.meshBlock [2, 4, 4] ![[0], []] c) 1).val = 0 := by
  revert c; decide
/-- by columns. -/
theorem cols_of (c : Dev nD) : ((Layout.meshBlock [2, 4, 4] ![[], [0]] c) 0).val = 0 ∧ ((Layout.meshBlock [2, 4, 4] ![[], [0]] c) 1).val = c.val / 16 := by
  revert c; decide

/-- An element of a device's result has its source, in the device and at the place named, where the whole array has it. -/
theorem place_eq (c : Dev nD) (i : S1024x512.Idx) (h : Layout.TilesN ⟨2, ![512, 1024]⟩ Whole _) (h' : Layout.TilesN ⟨2, ![1024, 512]⟩ Whole _) :
    h.idx (Layout.meshBlock [2, 4, 4] ![[0], []] (src c i)) (srcIx c i) = h'.idx (Layout.meshBlock [2, 4, 4] ![[], [0]] c) i := by
  have hi0 : (i 0).val < 1024 := (i 0).isLt
  have hc : c.val < 32 := c.isLt
  funext b
  refine Fin.ext ?_
  rw [Layout.TilesN.idx_val, Layout.TilesN.idx_val]
  fin_cases b
  · show ((Layout.meshBlock [2, 4, 4] ![[0], []] (src c i)) 0).val * 512 + (i 0).val % 512
      = ((Layout.meshBlock [2, 4, 4] ![[], [0]] c) 0).val * 1024 + (i 0).val
    rw [(rows_of _).1, (cols_of _).1]
    show (16 * ((i 0).val / 512) + c.val % 16) / 16 * 512 + (i 0).val % 512 = _
    omega
  · show ((Layout.meshBlock [2, 4, 4] ![[0], []] (src c i)) 1).val * 1024 + (512 * (c.val / 16) + (i 1).val)
      = ((Layout.meshBlock [2, 4, 4] ![[], [0]] c) 1).val * 512 + (i 1).val
    rw [(rows_of _).2, (cols_of _).2]
    omega

/-- If the devices' arguments are the row blocks of one array, their results are the column blocks of that array cast. -/
theorem outV_eq (w : Whole.Idx → F .f32)
    (h : ∀ c : Dev nD, xV m c = Layout.blockN ⟨2, ![512, 1024]⟩ Whole (Layout.meshBlock [2, 4, 4] ![[0], []] c) w) (c : Dev nD) :
    outV m c = Layout.blockN ⟨2, ![1024, 512]⟩ Whole (Layout.meshBlock [2, 4, 4] ![[], [0]] c)
      (fun i => FloatOps.truncf .bf16 bitsLt_bf16_f32 (w i)) := by
  funext i
  unfold outV
  rw [h]
  exact congrArg (fun j => FloatOps.truncf .bf16 bitsLt_bf16_f32 (w j)) (place_eq c i _ _)

end Cert.KernelIdeal.Hand

end
-- ==== Proof.Kernel.Frame.lean ====
/- The kernel over bit patterns: the same program text as over extended reals, so its run is the one already proved, at
   another type of values. -/
module

public import proofs.«01_k».proof.Proof.Gen.Kernel
public import proofs.«01_k».proof.Proof.KernelIdeal.Launch

@[expose] public section

noncomputable section

namespace Cert.Kernel.Hand

open Idealize.ShloMosaic Idealize.ShloMosaic.TcCoe Idealize.SL Idealize.SL.Sem

variable {F : FTy → Type} [FloatOps F]

/-- The two programs have one body table. -/
theorem defs_eq : Cert.Kernel.defs (F := F) = Cert.KernelIdeal.defs (F := F) := rfl

/-- The two programs are one. -/
theorem main_eq : Cert.Kernel.main (F := F) = Cert.KernelIdeal.main (F := F) := rfl

/-- From any memory with the counters at zero the kernel ends on every device, with the argument unchanged and the
    counters at zero. -/
theorem run_main (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r =>
      (∀ c : Dev Cert.Kernel.nD, r.2.mem ((c : Thread Cert.Kernel.nD Cert.Kernel.τ).loc Cert.Kernel.main_arg0)
        = m ((c : Thread Cert.Kernel.nD Cert.Kernel.τ).loc Cert.Kernel.main_arg0)) ∧ r.2.sem = fun _ => 0) := by
  have h := Cert.KernelIdeal.Hand.run_main (F := F) m ρ
  rw [← defs_eq, ← main_eq] at h
  exact (θ_run _ _ _).mono (fun _ h => ⟨fun c => (h.1 c).2, h.2⟩) h

end Cert.Kernel.Hand

end
-- ==== Proof.lean ====
/- The proof of the certificate's claim: the frames of the kernel, read over bit patterns and over extended reals, and of the
   reference; that the idealized kernel is the kernel; and that every device's result is its column block of the
   reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelIdeal.Value
public import proofs.«01_k».proof.Proof.Kernel.Frame
public import Idealize.ShloMosaic.Lib.Quiescent
public import Idealize.ShloMosaic.Adequacy
public import Idealize.ShloMosaic.Init

@[expose] public section

noncomputable section

namespace Cert.Proof

open Idealize.ShloMosaic Idealize.SL.Sem

/-- The kernel over bit patterns ends, its argument unchanged and every counter at zero. -/
theorem frame_kernel : Cert.quiescent_Kernel (hKernel := Cert.Kernel.Gen.facts) := fun m ρ _ =>
  Cert.Kernel.Hand.run_main (F := Bits) m ρ

/-- So does the kernel over extended reals. -/
theorem frame_kernelIdeal : Cert.quiescent_KernelIdeal (hKernelIdeal := Cert.KernelIdeal.Gen.facts) := fun m ρ _ =>
  (θ_run _ _ _).mono (fun _ h => ⟨fun c => (h.1 c).2, h.2⟩) (Cert.KernelIdeal.Hand.run_main (F := Ideal) m ρ)

/-- So does the reference. -/
theorem frame_referenceIdeal : Cert.quiescent_ReferenceIdeal (hReferenceIdeal := Cert.ReferenceIdeal.Gen.facts) := fun m ρ _ =>
  (θ_run _ _ _).mono (fun r h => ⟨fun c => (h c).2, sem_eq_zero_of_no_sems (by decide) r.2⟩)
    (Cert.ReferenceIdeal.Value.run (F := Ideal) m ρ)

/-- Over extended reals, where the devices' arguments are the row blocks of the reference's, their results are the column
    blocks of its result. -/
theorem algebraic : Cert.algebraic_KernelIdeal_ReferenceIdeal (hKernelIdeal := Cert.KernelIdeal.Gen.facts)
    (hReferenceIdeal := Cert.ReferenceIdeal.Gen.facts) := fun m ρ m' ρ' _ hx =>
  ⟨_,
    (θ_run _ _ _).mono (fun _ h c => ⟨(h.1 c).1.trans (Cert.KernelIdeal.Hand.outV_eq m _ hx c), (h.1 c).2⟩)
      (Cert.KernelIdeal.Hand.run_main (F := Ideal) m ρ),
    (θ_run _ _ _).mono (fun _ h => h 0) (Cert.ReferenceIdeal.Value.run (F := Ideal) m' ρ')⟩

/-- All that is claimed. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
